-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x64x64x64 : Shape := ⟨4, ![2, 64, 64, 64]⟩
abbrev S3x3x3x1x16 : Shape := ⟨5, ![3, 3, 3, 1, 16]⟩
abbrev S3x3x3x16x32 : Shape := ⟨5, ![3, 3, 3, 16, 32]⟩
abbrev S10x32 : Shape := ⟨2, ![10, 32]⟩
abbrev S10 : Shape := ⟨1, ![10]⟩
abbrev S_ : Shape := ⟨0, ![]⟩

class Facts : Prop where
  bcast_S_S2x64x64x64 : S_.BroadcastsInDim S2x64x64x64 (![] : Fin 0 → Fin S2x64x64x64.rank)
  reducesTo_S2x64x64x64_S_d0_1_2_3 : S2x64x64x64.ReducesTo [0, 1, 2, 3] S_
  h_S_ : 0 < S_.numel
  bcast_S_S3x3x3x1x16 : S_.BroadcastsInDim S3x3x3x1x16 (![] : Fin 0 → Fin S3x3x3x1x16.rank)
  reducesTo_S3x3x3x1x16_S_d0_1_2_3_4 : S3x3x3x1x16.ReducesTo [0, 1, 2, 3, 4] S_
  bcast_S_S3x3x3x16x32 : S_.BroadcastsInDim S3x3x3x16x32 (![] : Fin 0 → Fin S3x3x3x16x32.rank)
  reducesTo_S3x3x3x16x32_S_d0_1_2_3_4 : S3x3x3x16x32.ReducesTo [0, 1, 2, 3, 4] S_
  bcast_S_S10x32 : S_.BroadcastsInDim S10x32 (![] : Fin 0 → Fin S10x32.rank)
  reducesTo_S10x32_S_d0_1 : S10x32.ReducesTo [0, 1] S_

variable [Facts]

def fn_part1 {F : FTy → Type} [FloatOps F] (main_v5 : IVec S_ 1) (main_v9 : IVec S_ 1) (main_v13 : IVec S_ 1) (main_v14 : FVec F S10x32 .f32) (main_v15 : FVec F S10x32 .f32) : IVec S_ 1 :=
  let main_v16 : IVec S10x32 1 := cmpf .olt main_v14 main_v15
  let main_c_6 : IVec S_ 1 := constantI S_ 1 1#1
  let main_v17 : IVec S_ 1 := (fun x v => Host.reduce IntOp.andi x v reducesTo_S10x32_S_d0_1 h_S_) main_v16 main_c_6
  let main_v18 : IVec S_ 1 := andi main_v5 main_v9
  let main_v19 : IVec S_ 1 := andi main_v18 main_v13
  let main_v20 : IVec S_ 1 := andi main_v19 main_v17
  main_v20

def fn {F : FTy → Type} [FloatOps F] (main_arg0 : IVec S2x64x64x64 32) (main_arg1 : FVec F S3x3x3x1x16 .f32) (main_arg2 : FVec F S3x3x3x16x32 .f32) (main_arg3 : FVec F S10x32 .f32) (main_arg4 : FVec F S10 .f32) : IVec S_ 1 :=
  let main_c : IVec S_ 32 := constantI S_ 32 0#32
  let main_v0 : IVec S2x64x64x64 32 := broadcastInDim S2x64x64x64 ![] bcast_S_S2x64x64x64 main_c
  let main_v1 : IVec S2x64x64x64 1 := cmpi .eq main_arg0 main_v0
  let main_c_0 : IVec S_ 32 := constantI S_ 32 1#32
  let main_v2 : IVec S2x64x64x64 32 := broadcastInDim S2x64x64x64 ![] bcast_S_S2x64x64x64 main_c_0
  let main_v3 : IVec S2x64x64x64 1 := cmpi .eq main_arg0 main_v2
  let main_v4 : IVec S2x64x64x64 1 := ori main_v1 main_v3
  let main_c_1 : IVec S_ 1 := constantI S_ 1 1#1
  let main_v5 : IVec S_ 1 := (fun x v => Host.reduce IntOp.andi x v reducesTo_S2x64x64x64_S_d0_1_2_3 h_S_) main_v4 main_c_1
  let main_v6 : FVec F S3x3x3x1x16 .f32 := Host.absf main_arg1
  let main_cst : FVec F S_ .f32 := constant S_ .f32 0x7F800000#32
  let main_v7 : FVec F S3x3x3x1x16 .f32 := broadcastInDim S3x3x3x1x16 ![] bcast_S_S3x3x3x1x16 main_cst
  let main_v8 : IVec S3x3x3x1x16 1 := cmpf .olt main_v6 main_v7
  let main_c_2 : IVec S_ 1 := constantI S_ 1 1#1
  let main_v9 : IVec S_ 1 := (fun x v => Host.reduce IntOp.andi x v reducesTo_S3x3x3x1x16_S_d0_1_2_3_4 h_S_) main_v8 main_c_2
  let main_v10 : FVec F S3x3x3x16x32 .f32 := Host.absf main_arg2
  let main_cst_3 : FVec F S_ .f32 := constant S_ .f32 0x7F800000#32
  let main_v11 : FVec F S3x3x3x16x32 .f32 := broadcastInDim S3x3x3x16x32 ![] bcast_S_S3x3x3x16x32 main_cst_3
  let main_v12 : IVec S3x3x3x16x32 1 := cmpf .olt main_v10 main_v11
  let main_c_4 : IVec S_ 1 := constantI S_ 1 1#1
  let main_v13 : IVec S_ 1 := (fun x v => Host.reduce IntOp.andi x v reducesTo_S3x3x3x16x32_S_d0_1_2_3_4 h_S_) main_v12 main_c_4
  let main_v14 : FVec F S10x32 .f32 := Host.absf main_arg3
  let main_cst_5 : FVec F S_ .f32 := constant S_ .f32 0x7F800000#32
  let main_v15 : FVec F S10x32 .f32 := broadcastInDim S10x32 ![] bcast_S_S10x32 main_cst_5
  fn_part1 (F := F) main_v5 main_v9 main_v13 main_v14 main_v15
-- ==== Kernel.lean ====
abbrev S2x64x64x64 : Shape := ⟨4, ![2, 64, 64, 64]⟩
abbrev S3x3x3x1x16 : Shape := ⟨5, ![3, 3, 3, 1, 16]⟩
abbrev S3x3x3x16x32 : Shape := ⟨5, ![3, 3, 3, 16, 32]⟩
abbrev S10x32 : Shape := ⟨2, ![10, 32]⟩
abbrev S10 : Shape := ⟨1, ![10]⟩
abbrev S_ : Shape := ⟨0, ![]⟩
abbrev S2x74x68x68 : Shape := ⟨4, ![2, 74, 68, 68]⟩
abbrev S2x74x4624 : Shape := ⟨3, ![2, 74, 4624]⟩
abbrev S2x74x4768 : Shape := ⟨3, ![2, 74, 4768]⟩
abbrev S5 : Shape := ⟨1, ![5]⟩
abbrev S5x1 : Shape := ⟨2, ![5, 1]⟩
abbrev S18 : Shape := ⟨1, ![18]⟩
abbrev S1x18 : Shape := ⟨2, ![1, 18]⟩
abbrev S5x18 : Shape := ⟨2, ![5, 18]⟩
abbrev S5x18x1 : Shape := ⟨3, ![5, 18, 1]⟩
abbrev S2x5x18x4768 : Shape := ⟨4, ![2, 5, 18, 4768]⟩
abbrev S2x5x4768x18 : Shape := ⟨4, ![2, 5, 4768, 18]⟩
abbrev S2x5x4768x18x1 : Shape := ⟨5, ![2, 5, 4768, 18, 1]⟩
abbrev S2x5x4768x18x16 : Shape := ⟨5, ![2, 5, 4768, 18, 16]⟩
abbrev S2x5x4768x288 : Shape := ⟨4, ![2, 5, 4768, 288]⟩
abbrev S432x32 : Shape := ⟨2, ![432, 32]⟩
abbrev S32x10 : Shape := ⟨2, ![32, 10]⟩
abbrev S432x10 : Shape := ⟨2, ![432, 10]⟩
abbrev S3x9x16x10 : Shape := ⟨4, ![3, 9, 16, 10]⟩
abbrev S3x16x9x10 : Shape := ⟨4, ![3, 16, 9, 10]⟩
abbrev S16x16x9x16 : Shape := ⟨4, ![16, 16, 9, 16]⟩
abbrev S16x16x9x1x16 : Shape := ⟨5, ![16, 16, 9, 1, 16]⟩
abbrev S16x16x9x14x16 : Shape := ⟨5, ![16, 16, 9, 14, 16]⟩
abbrev S16x16x9x16x16 : Shape := ⟨5, ![16, 16, 9, 16, 16]⟩
abbrev S256x2304 : Shape := ⟨2, ![256, 2304]⟩
abbrev S16 : Shape := ⟨1, ![16]⟩
abbrev S1x16 : Shape := ⟨2, ![1, 16]⟩
abbrev S16x16 : Shape := ⟨2, ![16, 16]⟩
abbrev S256 : Shape := ⟨1, ![256]⟩
abbrev S1x256 : Shape := ⟨2, ![1, 256]⟩
abbrev S27x16 : Shape := ⟨2, ![27, 16]⟩
abbrev S1x27x1x16 : Shape := ⟨4, ![1, 27, 1, 16]⟩
abbrev S1x27x16x16 : Shape := ⟨4, ![1, 27, 16, 16]⟩
abbrev S27x256 : Shape := ⟨2, ![27, 256]⟩
abbrev S2x5x4624x224 : Shape := ⟨4, ![2, 5, 4624, 224]⟩
abbrev S1x1x4768x288 : Shape := ⟨4, ![1, 1, 4768, 288]⟩
abbrev S1x1x4624x224 : Shape := ⟨4, ![1, 1, 4624, 224]⟩
abbrev S4768x256 : Shape := ⟨2, ![4768, 256]⟩
abbrev S1x1x4768x256 : Shape := ⟨4, ![1, 1, 4768, 256]⟩
abbrev S1x1x4624x256 : Shape := ⟨4, ![1, 1, 4624, 256]⟩
abbrev S4624x256 : Shape := ⟨2, ![4624, 256]⟩
abbrev S256x256 : Shape := ⟨2, ![256, 256]⟩
abbrev S4624x224 : Shape := ⟨2, ![4624, 224]⟩
abbrev S2x5x4624x14x16 : Shape := ⟨5, ![2, 5, 4624, 14, 16]⟩
abbrev S2x5x14x4624x16 : Shape := ⟨5, ![2, 5, 14, 4624, 16]⟩
abbrev S2x70x4624x16 : Shape := ⟨4, ![2, 70, 4624, 16]⟩
abbrev S2x64x4624x10 : Shape := ⟨4, ![2, 64, 4624, 10]⟩
abbrev S2x64x68x68x10 : Shape := ⟨5, ![2, 64, 68, 68, 10]⟩
abbrev S2x64x64x64x10 : Shape := ⟨5, ![2, 64, 64, 64, 10]⟩
abbrev S524288x10 : Shape := ⟨2, ![524288, 10]⟩

abbrev nBuf : Space → Nat
  | .hbm => 122
  | .vmem => 13
  | .smem => 0
  | _ => 0

abbrev bufTy : (tb : Table) → Fin (tcTables nBuf tb) → BufTy
  | .hbm, ⟨0, _⟩ => ⟨S2x64x64x64, .i32⟩
  | .hbm, ⟨1, _⟩ => ⟨S3x3x3x1x16, .f32⟩
  | .hbm, ⟨2, _⟩ => ⟨S3x3x3x16x32, .f32⟩
  | .hbm, ⟨3, _⟩ => ⟨S10x32, .f32⟩
  | .hbm, ⟨4, _⟩ => ⟨S10, .f32⟩
  | .hbm, ⟨5, _⟩ => ⟨S2x64x64x64, .f32⟩
  | .hbm, ⟨6, _⟩ => ⟨S_, .i32⟩
  | .hbm, ⟨7, _⟩ => ⟨S_, .f32⟩
  | .hbm, ⟨8, _⟩ => ⟨S2x74x68x68, .f32⟩
  | .hbm, ⟨9, _⟩ => ⟨S2x74x4624, .f32⟩
  | .hbm, ⟨10, _⟩ => ⟨S_, .i32⟩
  | .hbm, ⟨11, _⟩ => ⟨S_, .f32⟩
  | .hbm, ⟨12, _⟩ => ⟨S2x74x4768, .f32⟩
  | .hbm, ⟨13, _⟩ => ⟨S5, .i32⟩
  | .hbm, ⟨14, _⟩ => ⟨S5x1, .i32⟩
  | .hbm, ⟨15, _⟩ => ⟨S_, .i32⟩
  | .hbm, ⟨16, _⟩ => ⟨S5x1, .i32⟩
  | .hbm, ⟨17, _⟩ => ⟨S5x1, .i32⟩
  | .hbm, ⟨18, _⟩ => ⟨S18, .i32⟩
  | .hbm, ⟨19, _⟩ => ⟨S1x18, .i32⟩
  | .hbm, ⟨20, _⟩ => ⟨S5x18, .i32⟩
  | .hbm, ⟨21, _⟩ => ⟨S5x18, .i32⟩
  | .hbm, ⟨22, _⟩ => ⟨S5x18, .i32⟩
  | .hbm, ⟨23, _⟩ => ⟨S_, .i32⟩
  | .hbm, ⟨24, _⟩ => ⟨S5x18, .i32⟩
  | .hbm, ⟨25, _⟩ => ⟨S5x18, .i1⟩
  | .hbm, ⟨26, _⟩ => ⟨S_, .i32⟩
  | .hbm, ⟨27, _⟩ => ⟨S5x18, .i32⟩
  | .hbm, ⟨28, _⟩ => ⟨S5x18, .i32⟩
  | .hbm, ⟨29, _⟩ => ⟨S5x18, .i32⟩
  | .hbm, ⟨30, _⟩ => ⟨S5x18x1, .i32⟩
  | .hbm, ⟨31, _⟩ => ⟨S2x5x18x4768, .f32⟩
  | .hbm, ⟨32, _⟩ => ⟨S2x5x4768x18, .f32⟩
  | .hbm, ⟨33, _⟩ => ⟨S2x5x4768x18x1, .f32⟩
  | .hbm, ⟨34, _⟩ => ⟨S2x5x4768x18x16, .f32⟩
  | .hbm, ⟨35, _⟩ => ⟨S2x5x4768x288, .f32⟩
  | .hbm, ⟨36, _⟩ => ⟨S432x32, .f32⟩
  | .hbm, ⟨37, _⟩ => ⟨S32x10, .f32⟩
  | .hbm, ⟨38, _⟩ => ⟨S432x10, .f32⟩
  | .hbm, ⟨39, _⟩ => ⟨S3x9x16x10, .f32⟩
  | .hbm, ⟨40, _⟩ => ⟨S3x16x9x10, .f32⟩
  | .hbm, ⟨41, _⟩ => ⟨S_, .i32⟩
  | .hbm, ⟨42, _⟩ => ⟨S_, .f32⟩
  | .hbm, ⟨43, _⟩ => ⟨S16x16x9x16, .f32⟩
  | .hbm, ⟨44, _⟩ => ⟨S_, .i32⟩
  | .hbm, ⟨45, _⟩ => ⟨S_, .f32⟩
  | .hbm, ⟨46, _⟩ => ⟨S16x16x9x16, .f32⟩
  | .hbm, ⟨47, _⟩ => ⟨S_, .i32⟩
  | .hbm, ⟨48, _⟩ => ⟨S_, .f32⟩
  | .hbm, ⟨49, _⟩ => ⟨S16x16x9x16, .f32⟩
  | .hbm, ⟨50, _⟩ => ⟨S_, .i32⟩
  | .hbm, ⟨51, _⟩ => ⟨S_, .f32⟩
  | .hbm, ⟨52, _⟩ => ⟨S16x16x9x16, .f32⟩
  | .hbm, ⟨53, _⟩ => ⟨S_, .i32⟩
  | .hbm, ⟨54, _⟩ => ⟨S_, .f32⟩
  | .hbm, ⟨55, _⟩ => ⟨S16x16x9x16, .f32⟩
  | .hbm, ⟨56, _⟩ => ⟨S_, .i32⟩
  | .hbm, ⟨57, _⟩ => ⟨S_, .f32⟩
  | .hbm, ⟨58, _⟩ => ⟨S16x16x9x16, .f32⟩
  | .hbm, ⟨59, _⟩ => ⟨S_, .i32⟩
  | .hbm, ⟨60, _⟩ => ⟨S_, .f32⟩
  | .hbm, ⟨61, _⟩ => ⟨S16x16x9x16, .f32⟩
  | .hbm, ⟨62, _⟩ => ⟨S_, .i32⟩
  | .hbm, ⟨63, _⟩ => ⟨S_, .f32⟩
  | .hbm, ⟨64, _⟩ => ⟨S16x16x9x16, .f32⟩
  | .hbm, ⟨65, _⟩ => ⟨S_, .i32⟩
  | .hbm, ⟨66, _⟩ => ⟨S_, .f32⟩
  | .hbm, ⟨67, _⟩ => ⟨S16x16x9x16, .f32⟩
  | .hbm, ⟨68, _⟩ => ⟨S_, .i32⟩
  | .hbm, ⟨69, _⟩ => ⟨S_, .f32⟩
  | .hbm, ⟨70, _⟩ => ⟨S16x16x9x16, .f32⟩
  | .hbm, ⟨71, _⟩ => ⟨S_, .i32⟩
  | .hbm, ⟨72, _⟩ => ⟨S_, .f32⟩
  | .hbm, ⟨73, _⟩ => ⟨S16x16x9x16, .f32⟩
  | .hbm, ⟨74, _⟩ => ⟨S_, .i32⟩
  | .hbm, ⟨75, _⟩ => ⟨S_, .f32⟩
  | .hbm, ⟨76, _⟩ => ⟨S16x16x9x16, .f32⟩
  | .hbm, ⟨77, _⟩ => ⟨S_, .i32⟩
  | .hbm, ⟨78, _⟩ => ⟨S_, .f32⟩
  | .hbm, ⟨79, _⟩ => ⟨S16x16x9x16, .f32⟩
  | .hbm, ⟨80, _⟩ => ⟨S_, .i32⟩
  | .hbm, ⟨81, _⟩ => ⟨S_, .f32⟩
  | .hbm, ⟨82, _⟩ => ⟨S16x16x9x16, .f32⟩
  | .hbm, ⟨83, _⟩ => ⟨S16x16x9x1x16, .f32⟩
  | .hbm, ⟨84, _⟩ => ⟨S16x16x9x1x16, .f32⟩
  | .hbm, ⟨85, _⟩ => ⟨S16x16x9x1x16, .f32⟩
  | .hbm, ⟨86, _⟩ => ⟨S16x16x9x1x16, .f32⟩
  | .hbm, ⟨87, _⟩ => ⟨S16x16x9x1x16, .f32⟩
  | .hbm, ⟨88, _⟩ => ⟨S16x16x9x1x16, .f32⟩
  | .hbm, ⟨89, _⟩ => ⟨S16x16x9x1x16, .f32⟩
  | .hbm, ⟨90, _⟩ => ⟨S16x16x9x1x16, .f32⟩
  | .hbm, ⟨91, _⟩ => ⟨S16x16x9x1x16, .f32⟩
  | .hbm, ⟨92, _⟩ => ⟨S16x16x9x1x16, .f32⟩
  | .hbm, ⟨93, _⟩ => ⟨S16x16x9x1x16, .f32⟩
  | .hbm, ⟨94, _⟩ => ⟨S16x16x9x1x16, .f32⟩
  | .hbm, ⟨95, _⟩ => ⟨S16x16x9x1x16, .f32⟩
  | .hbm, ⟨96, _⟩ => ⟨S16x16x9x1x16, .f32⟩
  | .hbm, ⟨97, _⟩ => ⟨S16x16x9x14x16, .f32⟩
  | .hbm, ⟨98, _⟩ => ⟨S_, .i32⟩
  | .hbm, ⟨99, _⟩ => ⟨S_, .f32⟩
  | .hbm, ⟨100, _⟩ => ⟨S16x16x9x16x16, .f32⟩
  | .hbm, ⟨101, _⟩ => ⟨S256x2304, .f32⟩
  | .hbm, ⟨102, _⟩ => ⟨S256x2304, .bf16⟩
  | .hbm, ⟨103, _⟩ => ⟨S_, .i32⟩
  | .hbm, ⟨104, _⟩ => ⟨S_, .f32⟩
  | .hbm, ⟨105, _⟩ => ⟨S16, .f32⟩
  | .hbm, ⟨106, _⟩ => ⟨S1x16, .f32⟩
  | .hbm, ⟨107, _⟩ => ⟨S16x16, .f32⟩
  | .hbm, ⟨108, _⟩ => ⟨S256, .f32⟩
  | .hbm, ⟨109, _⟩ => ⟨S1x256, .f32⟩
  | .hbm, ⟨110, _⟩ => ⟨S27x16, .f32⟩
  | .hbm, ⟨111, _⟩ => ⟨S1x27x1x16, .f32⟩
  | .hbm, ⟨112, _⟩ => ⟨S1x27x16x16, .f32⟩
  | .hbm, ⟨113, _⟩ => ⟨S27x256, .f32⟩
  | .hbm, ⟨114, _⟩ => ⟨S2x5x4624x224, .f32⟩
  | .hbm, ⟨115, _⟩ => ⟨S2x5x4624x14x16, .f32⟩
  | .hbm, ⟨116, _⟩ => ⟨S2x5x14x4624x16, .f32⟩
  | .hbm, ⟨117, _⟩ => ⟨S2x70x4624x16, .f32⟩
  | .hbm, ⟨118, _⟩ => ⟨S2x64x4624x10, .f32⟩
  | .hbm, ⟨119, _⟩ => ⟨S2x64x68x68x10, .f32⟩
  | .hbm, ⟨120, _⟩ => ⟨S2x64x64x64x10, .f32⟩
  | .hbm, ⟨121, _⟩ => ⟨S524288x10, .f32⟩
  | .local _ .vmem, ⟨0, _⟩ => ⟨S1x1x4768x288, .f32⟩
  | .local _ .vmem, ⟨1, _⟩ => ⟨S1x1x4768x288, .f32⟩
  | .local _ .vmem, ⟨2, _⟩ => ⟨S256x2304, .bf16⟩
  | .local _ .vmem, ⟨3, _⟩ => ⟨S1x256, .f32⟩
  | .local _ .vmem, ⟨4, _⟩ => ⟨S27x256, .f32⟩
  | .local _ .vmem, ⟨5, _⟩ => ⟨S1x1x4624x224, .f32⟩
  | .local _ .vmem, ⟨6, _⟩ => ⟨S1x1x4624x224, .f32⟩
  | .local _ .vmem, ⟨7, _⟩ => ⟨S4768x256, .f32⟩
  | .local _ .vmem, ⟨8, _⟩ => ⟨S4768x256, .f32⟩
  | .local _ .vmem, ⟨9, _⟩ => ⟨S4768x256, .f32⟩
  | .local _ .vmem, ⟨10, _⟩ => ⟨S4768x256, .bf16⟩
  | .local _ .vmem, ⟨11, _⟩ => ⟨S4768x256, .f32⟩
  | .local _ .vmem, ⟨12, _⟩ => ⟨S4768x256, .f32⟩
  | _, _ => ⟨S2x64x64x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_call2_v0 : Ref sig .tc := ⟨.hbm, 42, rfl⟩
abbrev main_v29 : Ref sig .tc := ⟨.hbm, 43, rfl⟩
abbrev main_c_5 : Ref sig .tc := ⟨.hbm, 44, rfl⟩
abbrev main_call3_v0 : Ref sig .tc := ⟨.hbm, 45, rfl⟩
abbrev main_v30 : Ref sig .tc := ⟨.hbm, 46, rfl⟩
abbrev main_c_6 : Ref sig .tc := ⟨.hbm, 47, rfl⟩
abbrev main_call4_v0 : Ref sig .tc := ⟨.hbm, 48, rfl⟩
abbrev main_v31 : Ref sig .tc := ⟨.hbm, 49, rfl⟩
abbrev main_c_7 : Ref sig .tc := ⟨.hbm, 50, rfl⟩
abbrev main_call5_v0 : Ref sig .tc := ⟨.hbm, 51, rfl⟩
abbrev main_v32 : Ref sig .tc := ⟨.hbm, 52, rfl⟩
abbrev main_c_8 : Ref sig .tc := ⟨.hbm, 53, rfl⟩
abbrev main_call6_v0 : Ref sig .tc := ⟨.hbm, 54, rfl⟩
abbrev main_v33 : Ref sig .tc := ⟨.hbm, 55, rfl⟩
abbrev main_c_9 : Ref sig .tc := ⟨.hbm, 56, rfl⟩
abbrev main_call7_v0 : Ref sig .tc := ⟨.hbm, 57, rfl⟩
abbrev main_v34 : Ref sig .tc := ⟨.hbm, 58, rfl⟩
abbrev main_c_10 : Ref sig .tc := ⟨.hbm, 59, rfl⟩
abbrev main_call8_v0 : Ref sig .tc := ⟨.hbm, 60, rfl⟩
abbrev main_v35 : Ref sig .tc := ⟨.hbm, 61, rfl⟩
abbrev main_c_11 : Ref sig .tc := ⟨.hbm, 62, rfl⟩
abbrev main_call9_v0 : Ref sig .tc := ⟨.hbm, 63, rfl⟩
abbrev main_v36 : Ref sig .tc := ⟨.hbm, 64, rfl⟩
abbrev main_c_12 : Ref sig .tc := ⟨.hbm, 65, rfl⟩
abbrev main_call10_v0 : Ref sig .tc := ⟨.hbm, 66, rfl⟩
abbrev main_v37 : Ref sig .tc := ⟨.hbm, 67, rfl⟩
abbrev main_c_13 : Ref sig .tc := ⟨.hbm, 68, rfl⟩
abbrev main_call11_v0 : Ref sig .tc := ⟨.hbm, 69, rfl⟩
abbrev main_v38 : Ref sig .tc := ⟨.hbm, 70, rfl⟩
abbrev main_c_14 : Ref sig .tc := ⟨.hbm, 71, rfl⟩
abbrev main_call12_v0 : Ref sig .tc := ⟨.hbm, 72, rfl⟩
abbrev main_v39 : Ref sig .tc := ⟨.hbm, 73, rfl⟩
abbrev main_c_15 : Ref sig .tc := ⟨.hbm, 74, rfl⟩
abbrev main_call13_v0 : Ref sig .tc := ⟨.hbm, 75, rfl⟩
abbrev main_v40 : Ref sig .tc := ⟨.hbm, 76, rfl⟩
abbrev main_c_16 : Ref sig .tc := ⟨.hbm, 77, rfl⟩
abbrev main_call14_v0 : Ref sig .tc := ⟨.hbm, 78, rfl⟩
abbrev main_v41 : Ref sig .tc := ⟨.hbm, 79, rfl⟩
abbrev main_c_17 : Ref sig .tc := ⟨.hbm, 80, rfl⟩
abbrev main_call15_v0 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_c_18 : Ref sig .tc := ⟨.hbm, 98, rfl⟩
abbrev main_call16_v0 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_19 : Ref sig .tc := ⟨.hbm, 103, rfl⟩
abbrev main_call17_v0 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4768x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S27x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x4624x224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x64x64x64 : Shape := ⟨4, ![2, 64, 64, 64]⟩
abbrev S3x3x3x1x16 : Shape := ⟨5, ![3, 3, 3, 1, 16]⟩
abbrev S3x3x3x16x32 : Shape := ⟨5, ![3, 3, 3, 16, 32]⟩
abbrev S10x32 : Shape := ⟨2, ![10, 32]⟩
abbrev S10 : Shape := ⟨1, ![10]⟩
abbrev S_ : Shape := ⟨0, ![]⟩
abbrev S2x64x64x64x1 : Shape := ⟨5, ![2, 64, 64, 64, 1]⟩
abbrev S2x66x66x66x1 : Shape := ⟨5, ![2, 66, 66, 66, 1]⟩
abbrev S2x64x64x64x16 : Shape := ⟨5, ![2, 64, 64, 64, 16]⟩
abbrev S1x1x1x1x16 : Shape := ⟨5, ![1, 1, 1, 1, 16]⟩
abbrev S1x16 : Shape := ⟨2, ![1, 16]⟩
abbrev S2x66x66x66x16 : Shape := ⟨5, ![2, 66, 66, 66, 16]⟩
abbrev S2x64x64x64x32 : Shape := ⟨5, ![2, 64, 64, 64, 32]⟩
abbrev S1x1x1x16x32 : Shape := ⟨5, ![1, 1, 1, 16, 32]⟩
abbrev S16x32 : Shape := ⟨2, ![16, 32]⟩
abbrev S524288x32 : Shape := ⟨2, ![524288, 32]⟩
abbrev S32x10 : Shape := ⟨2, ![32, 10]⟩
abbrev S524288x10 : Shape := ⟨2, ![524288, 10]⟩
abbrev S1x10 : Shape := ⟨2, ![1, 10]⟩
abbrev S524288x1 : Shape := ⟨2, ![524288, 1]⟩

abbrev nBuf : Space → Nat
  | .hbm => 305
  | .vmem => 0
  | .smem => 0
  | _ => 0

abbrev hbmTy0_0 (i : Nat) : BufTy := match i % 128 with
  | 0 => ⟨S2x64x64x64, .i32⟩
  | 1 => ⟨S3x3x3x1x16, .f32⟩
  | 2 => ⟨S3x3x3x16x32, .f32⟩
  | 3 => ⟨S10x32, .f32⟩
  | 4 => ⟨S10, .f32⟩
  | 5 => ⟨S2x64x64x64, .f32⟩
  | 6 => ⟨S_, .f32⟩
  | 7 => ⟨S2x64x64x64, .f32⟩
  | 8 => ⟨S2x64x64x64, .i1⟩
  | 9 => ⟨S2x64x64x64, .f32⟩
  | 10 => ⟨S2x64x64x64x1, .f32⟩
  | 11 => ⟨S2x64x64x64x1, .f32⟩
  | 12 => ⟨S_, .i32⟩
  | 13 => ⟨S_, .f32⟩
  | 14 => ⟨S2x66x66x66x1, .f32⟩
  | 15 => ⟨S_, .f32⟩
  | 16 => ⟨S2x64x64x64x16, .f32⟩
  | 17 => ⟨S2x64x64x64x1, .f32⟩
  | 18 => ⟨S1x1x1x1x16, .f32⟩
  | 19 => ⟨S1x16, .f32⟩
  | 20 => ⟨S2x64x64x64x16, .f32⟩
  | 21 => ⟨S2x64x64x64x16, .f32⟩
  | 22 => ⟨S2x64x64x64x1, .f32⟩
  | 23 => ⟨S1x1x1x1x16, .f32⟩
  | 24 => ⟨S1x16, .f32⟩
  | 25 => ⟨S2x64x64x64x16, .f32⟩
  | 26 => ⟨S2x64x64x64x16, .f32⟩
  | 27 => ⟨S2x64x64x64x1, .f32⟩
  | 28 => ⟨S1x1x1x1x16, .f32⟩
  | 29 => ⟨S1x16, .f32⟩
  | 30 => ⟨S2x64x64x64x16, .f32⟩
  | 31 => ⟨S2x64x64x64x16, .f32⟩
  | 32 => ⟨S2x64x64x64x1, .f32⟩
  | 33 => ⟨S1x1x1x1x16, .f32⟩
  | 34 => ⟨S1x16, .f32⟩
  | 35 => ⟨S2x64x64x64x16, .f32⟩
  | 36 => ⟨S2x64x64x64x16, .f32⟩
  | 37 => ⟨S2x64x64x64x1, .f32⟩
  | 38 => ⟨S1x1x1x1x16, .f32⟩
  | 39 => ⟨S1x16, .f32⟩
  | 40 => ⟨S2x64x64x64x16, .f32⟩
  | 41 => ⟨S2x64x64x64x16, .f32⟩
  | 42 => ⟨S2x64x64x64x1, .f32⟩
  | 43 => ⟨S1x1x1x1x16, .f32⟩
  | 44 => ⟨S1x16, .f32⟩
  | 45 => ⟨S2x64x64x64x16, .f32⟩
  | 46 => ⟨S2x64x64x64x16, .f32⟩
  | 47 => ⟨S2x64x64x64x1, .f32⟩
  | 48 => ⟨S1x1x1x1x16, .f32⟩
  | 49 => ⟨S1x16, .f32⟩
  | 50 => ⟨S2x64x64x64x16, .f32⟩
  | 51 => ⟨S2x64x64x64x16, .f32⟩
  | 52 => ⟨S2x64x64x64x1, .f32⟩
  | 53 => ⟨S1x1x1x1x16, .f32⟩
  | 54 => ⟨S1x16, .f32⟩
  | 55 => ⟨S2x64x64x64x16, .f32⟩
  | 56 => ⟨S2x64x64x64x16, .f32⟩
  | 57 => ⟨S2x64x64x64x1, .f32⟩
  | 58 => ⟨S1x1x1x1x16, .f32⟩
  | 59 => ⟨S1x16, .f32⟩
  | 60 => ⟨S2x64x64x64x16, .f32⟩
  | 61 => ⟨S2x64x64x64x16, .f32⟩
  | 62 => ⟨S2x64x64x64x1, .f32⟩
  | 63 => ⟨S1x1x1x1x16, .f32⟩
  | 64 => ⟨S1x16, .f32⟩
  | 65 => ⟨S2x64x64x64x16, .f32⟩
  | 66 => ⟨S2x64x64x64x16, .f32⟩
  | 67 => ⟨S2x64x64x64x1, .f32⟩
  | 68 => ⟨S1x1x1x1x16, .f32⟩
  | 69 => ⟨S1x16, .f32⟩
  | 70 => ⟨S2x64x64x64x16, .f32⟩
  | 71 => ⟨S2x64x64x64x16, .f32⟩
  | 72 => ⟨S2x64x64x64x1, .f32⟩
  | 73 => ⟨S1x1x1x1x16, .f32⟩
  | 74 => ⟨S1x16, .f32⟩
  | 75 => ⟨S2x64x64x64x16, .f32⟩
  | 76 => ⟨S2x64x64x64x16, .f32⟩
  | 77 => ⟨S2x64x64x64x1, .f32⟩
  | 78 => ⟨S1x1x1x1x16, .f32⟩
  | 79 => ⟨S1x16, .f32⟩
  | 80 => ⟨S2x64x64x64x16, .f32⟩
  | 81 => ⟨S2x64x64x64x16, .f32⟩
  | 82 => ⟨S2x64x64x64x1, .f32⟩
  | 83 => ⟨S1x1x1x1x16, .f32⟩
  | 84 => ⟨S1x16, .f32⟩
  | 85 => ⟨S2x64x64x64x16, .f32⟩
  | 86 => ⟨S2x64x64x64x16, .f32⟩
  | 87 => ⟨S2x64x64x64x1, .f32⟩
  | 88 => ⟨S1x1x1x1x16, .f32⟩
  | 89 => ⟨S1x16, .f32⟩
  | 90 => ⟨S2x64x64x64x16, .f32⟩
  | 91 => ⟨S2x64x64x64x16, .f32⟩
  | 92 => ⟨S2x64x64x64x1, .f32⟩
  | 93 => ⟨S1x1x1x1x16, .f32⟩
  | 94 => ⟨S1x16, .f32⟩
  | 95 => ⟨S2x64x64x64x16, .f32⟩
  | 96 => ⟨S2x64x64x64x16, .f32⟩
  | 97 => ⟨S2x64x64x64x1, .f32⟩
  | 98 => ⟨S1x1x1x1x16, .f32⟩
  | 99 => ⟨S1x16, .f32⟩
  | 100 => ⟨S2x64x64x64x16, .f32⟩
  | 101 => ⟨S2x64x64x64x16, .f32⟩
  | 102 => ⟨S2x64x64x64x1, .f32⟩
  | 103 => ⟨S1x1x1x1x16, .f32⟩
  | 104 => ⟨S1x16, .f32⟩
  | 105 => ⟨S2x64x64x64x16, .f32⟩
  | 106 => ⟨S2x64x64x64x16, .f32⟩
  | 107 => ⟨S2x64x64x64x1, .f32⟩
  | 108 => ⟨S1x1x1x1x16, .f32⟩
  | 109 => ⟨S1x16, .f32⟩
  | 110 => ⟨S2x64x64x64x16, .f32⟩
  | 111 => ⟨S2x64x64x64x16, .f32⟩
  | 112 => ⟨S2x64x64x64x1, .f32⟩
  | 113 => ⟨S1x1x1x1x16, .f32⟩
  | 114 => ⟨S1x16, .f32⟩
  | 115 => ⟨S2x64x64x64x16, .f32⟩
  | 116 => ⟨S2x64x64x64x16, .f32⟩
  | 117 => ⟨S2x64x64x64x1, .f32⟩
  | 118 => ⟨S1x1x1x1x16, .f32⟩
  | 119 => ⟨S1x16, .f32⟩
  | 120 => ⟨S2x64x64x64x16, .f32⟩
  | 121 => ⟨S2x64x64x64x16, .f32⟩
  | 122 => ⟨S2x64x64x64x1, .f32⟩
  | 123 => ⟨S1x1x1x1x16, .f32⟩
  | 124 => ⟨S1x16, .f32⟩
  | 125 => ⟨S2x64x64x64x16, .f32⟩
  | 126 => ⟨S2x64x64x64x16, .f32⟩
  | 127 => ⟨S2x64x64x64x1, .f32⟩
  | _ => ⟨S2x64x64x64, .i32⟩

abbrev hbmTy0_1 (i : Nat) : BufTy := match i % 128 with
  | 0 => ⟨S1x1x1x1x16, .f32⟩
  | 1 => ⟨S1x16, .f32⟩
  | 2 => ⟨S2x64x64x64x16, .f32⟩
  | 3 => ⟨S2x64x64x64x16, .f32⟩
  | 4 => ⟨S2x64x64x64x1, .f32⟩
  | 5 => ⟨S1x1x1x1x16, .f32⟩
  | 6 => ⟨S1x16, .f32⟩
  | 7 => ⟨S2x64x64x64x16, .f32⟩
  | 8 => ⟨S2x64x64x64x16, .f32⟩
  | 9 => ⟨S2x64x64x64x1, .f32⟩
  | 10 => ⟨S1x1x1x1x16, .f32⟩
  | 11 => ⟨S1x16, .f32⟩
  | 12 => ⟨S2x64x64x64x16, .f32⟩
  | 13 => ⟨S2x64x64x64x16, .f32⟩
  | 14 => ⟨S2x64x64x64x1, .f32⟩
  | 15 => ⟨S1x1x1x1x16, .f32⟩
  | 16 => ⟨S1x16, .f32⟩
  | 17 => ⟨S2x64x64x64x16, .f32⟩
  | 18 => ⟨S2x64x64x64x16, .f32⟩
  | 19 => ⟨S2x64x64x64x1, .f32⟩
  | 20 => ⟨S1x1x1x1x16, .f32⟩
  | 21 => ⟨S1x16, .f32⟩
  | 22 => ⟨S2x64x64x64x16, .f32⟩
  | 23 => ⟨S2x64x64x64x16, .f32⟩
  | 24 => ⟨S2x64x64x64x16, .f32⟩
  | 25 => ⟨S2x64x64x64x16, .f32⟩
  | 26 => ⟨S_, .i32⟩
  | 27 => ⟨S_, .f32⟩
  | 28 => ⟨S2x66x66x66x16, .f32⟩
  | 29 => ⟨S_, .f32⟩
  | 30 => ⟨S2x64x64x64x32, .f32⟩
  | 31 => ⟨S2x64x64x64x16, .f32⟩
  | 32 => ⟨S1x1x1x16x32, .f32⟩
  | 33 => ⟨S16x32, .f32⟩
  | 34 => ⟨S2x64x64x64x32, .f32⟩
  | 35 => ⟨S2x64x64x64x32, .f32⟩
  | 36 => ⟨S2x64x64x64x16, .f32⟩
  | 37 => ⟨S1x1x1x16x32, .f32⟩
  | 38 => ⟨S16x32, .f32⟩
  | 39 => ⟨S2x64x64x64x32, .f32⟩
  | 40 => ⟨S2x64x64x64x32, .f32⟩
  | 41 => ⟨S2x64x64x64x16, .f32⟩
  | 42 => ⟨S1x1x1x16x32, .f32⟩
  | 43 => ⟨S16x32, .f32⟩
  | 44 => ⟨S2x64x64x64x32, .f32⟩
  | 45 => ⟨S2x64x64x64x32, .f32⟩
  | 46 => ⟨S2x64x64x64x16, .f32⟩
  | 47 => ⟨S1x1x1x16x32, .f32⟩
  | 48 => ⟨S16x32, .f32⟩
  | 49 => ⟨S2x64x64x64x32, .f32⟩
  | 50 => ⟨S2x64x64x64x32, .f32⟩
  | 51 => ⟨S2x64x64x64x16, .f32⟩
  | 52 => ⟨S1x1x1x16x32, .f32⟩
  | 53 => ⟨S16x32, .f32⟩
  | 54 => ⟨S2x64x64x64x32, .f32⟩
  | 55 => ⟨S2x64x64x64x32, .f32⟩
  | 56 => ⟨S2x64x64x64x16, .f32⟩
  | 57 => ⟨S1x1x1x16x32, .f32⟩
  | 58 => ⟨S16x32, .f32⟩
  | 59 => ⟨S2x64x64x64x32, .f32⟩
  | 60 => ⟨S2x64x64x64x32, .f32⟩
  | 61 => ⟨S2x64x64x64x16, .f32⟩
  | 62 => ⟨S1x1x1x16x32, .f32⟩
  | 63 => ⟨S16x32, .f32⟩
  | 64 => ⟨S2x64x64x64x32, .f32⟩
  | 65 => ⟨S2x64x64x64x32, .f32⟩
  | 66 => ⟨S2x64x64x64x16, .f32⟩
  | 67 => ⟨S1x1x1x16x32, .f32⟩
  | 68 => ⟨S16x32, .f32⟩
  | 69 => ⟨S2x64x64x64x32, .f32⟩
  | 70 => ⟨S2x64x64x64x32, .f32⟩
  | 71 => ⟨S2x64x64x64x16, .f32⟩
  | 72 => ⟨S1x1x1x16x32, .f32⟩
  | 73 => ⟨S16x32, .f32⟩
  | 74 => ⟨S2x64x64x64x32, .f32⟩
  | 75 => ⟨S2x64x64x64x32, .f32⟩
  | 76 => ⟨S2x64x64x64x16, .f32⟩
  | 77 => ⟨S1x1x1x16x32, .f32⟩
  | 78 => ⟨S16x32, .f32⟩
  | 79 => ⟨S2x64x64x64x32, .f32⟩
  | 80 => ⟨S2x64x64x64x32, .f32⟩
  | 81 => ⟨S2x64x64x64x16, .f32⟩
  | 82 => ⟨S1x1x1x16x32, .f32⟩
  | 83 => ⟨S16x32, .f32⟩
  | 84 => ⟨S2x64x64x64x32, .f32⟩
  | 85 => ⟨S2x64x64x64x32, .f32⟩
  | 86 => ⟨S2x64x64x64x16, .f32⟩
  | 87 => ⟨S1x1x1x16x32, .f32⟩
  | 88 => ⟨S16x32, .f32⟩
  | 89 => ⟨S2x64x64x64x32, .f32⟩
  | 90 => ⟨S2x64x64x64x32, .f32⟩
  | 91 => ⟨S2x64x64x64x16, .f32⟩
  | 92 => ⟨S1x1x1x16x32, .f32⟩
  | 93 => ⟨S16x32, .f32⟩
  | 94 => ⟨S2x64x64x64x32, .f32⟩
  | 95 => ⟨S2x64x64x64x32, .f32⟩
  | 96 => ⟨S2x64x64x64x16, .f32⟩
  | 97 => ⟨S1x1x1x16x32, .f32⟩
  | 98 => ⟨S16x32, .f32⟩
  | 99 => ⟨S2x64x64x64x32, .f32⟩
  | 100 => ⟨S2x64x64x64x32, .f32⟩
  | 101 => ⟨S2x64x64x64x16, .f32⟩
  | 102 => ⟨S1x1x1x16x32, .f32⟩
  | 103 => ⟨S16x32, .f32⟩
  | 104 => ⟨S2x64x64x64x32, .f32⟩
  | 105 => ⟨S2x64x64x64x32, .f32⟩
  | 106 => ⟨S2x64x64x64x16, .f32⟩
  | 107 => ⟨S1x1x1x16x32, .f32⟩
  | 108 => ⟨S16x32, .f32⟩
  | 109 => ⟨S2x64x64x64x32, .f32⟩
  | 110 => ⟨S2x64x64x64x32, .f32⟩
  | 111 => ⟨S2x64x64x64x16, .f32⟩
  | 112 => ⟨S1x1x1x16x32, .f32⟩
  | 113 => ⟨S16x32, .f32⟩
  | 114 => ⟨S2x64x64x64x32, .f32⟩
  | 115 => ⟨S2x64x64x64x32, .f32⟩
  | 116 => ⟨S2x64x64x64x16, .f32⟩
  | 117 => ⟨S1x1x1x16x32, .f32⟩
  | 118 => ⟨S16x32, .f32⟩
  | 119 => ⟨S2x64x64x64x32, .f32⟩
  | 120 => ⟨S2x64x64x64x32, .f32⟩
  | 121 => ⟨S2x64x64x64x16, .f32⟩
  | 122 => ⟨S1x1x1x16x32, .f32⟩
  | 123 => ⟨S16x32, .f32⟩
  | 124 => ⟨S2x64x64x64x32, .f32⟩
  | 125 => ⟨S2x64x64x64x32, .f32⟩
  | 126 => ⟨S2x64x64x64x16, .f32⟩
  | 127 => ⟨S1x1x1x16x32, .f32⟩
  | _ => ⟨S2x64x64x64, .i32⟩

abbrev hbmTy0_2 (i : Nat) : BufTy := match i % 128 with
  | 0 => ⟨S16x32, .f32⟩
  | 1 => ⟨S2x64x64x64x32, .f32⟩
  | 2 => ⟨S2x64x64x64x32, .f32⟩
  | 3 => ⟨S2x64x64x64x16, .f32⟩
  | 4 => ⟨S1x1x1x16x32, .f32⟩
  | 5 => ⟨S16x32, .f32⟩
  | 6 => ⟨S2x64x64x64x32, .f32⟩
  | 7 => ⟨S2x64x64x64x32, .f32⟩
  | 8 => ⟨S2x64x64x64x16, .f32⟩
  | 9 => ⟨S1x1x1x16x32, .f32⟩
  | 10 => ⟨S16x32, .f32⟩
  | 11 => ⟨S2x64x64x64x32, .f32⟩
  | 12 => ⟨S2x64x64x64x32, .f32⟩
  | 13 => ⟨S2x64x64x64x16, .f32⟩
  | 14 => ⟨S1x1x1x16x32, .f32⟩
  | 15 => ⟨S16x32, .f32⟩
  | 16 => ⟨S2x64x64x64x32, .f32⟩
  | 17 => ⟨S2x64x64x64x32, .f32⟩
  | 18 => ⟨S2x64x64x64x16, .f32⟩
  | 19 => ⟨S1x1x1x16x32, .f32⟩
  | 20 => ⟨S16x32, .f32⟩
  | 21 => ⟨S2x64x64x64x32, .f32⟩
  | 22 => ⟨S2x64x64x64x32, .f32⟩
  | 23 => ⟨S2x64x64x64x16, .f32⟩
  | 24 => ⟨S1x1x1x16x32, .f32⟩
  | 25 => ⟨S16x32, .f32⟩
  | 26 => ⟨S2x64x64x64x32, .f32⟩
  | 27 => ⟨S2x64x64x64x32, .f32⟩
  | 28 => ⟨S2x64x64x64x16, .f32⟩
  | 29 => ⟨S1x1x1x16x32, .f32⟩
  | 30 => ⟨S16x32, .f32⟩
  | 31 => ⟨S2x64x64x64x32, .f32⟩
  | 32 => ⟨S2x64x64x64x32, .f32⟩
  | 33 => ⟨S2x64x64x64x16, .f32⟩
  | 34 => ⟨S1x1x1x16x32, .f32⟩
  | 35 => ⟨S16x32, .f32⟩
  | 36 => ⟨S2x64x64x64x32, .f32⟩
  | 37 => ⟨S2x64x64x64x32, .f32⟩
  | 38 => ⟨S2x64x64x64x32, .f32⟩
  | 39 => ⟨S2x64x64x64x32, .f32⟩
  | 40 => ⟨S524288x32, .f32⟩
  | 41 => ⟨S32x10, .f32⟩
  | 42 => ⟨S524288x10, .f32⟩
  | 43 => ⟨S1x10, .f32⟩
  | 44 => ⟨S524288x10, .f32⟩
  | 45 => ⟨S524288x10, .f32⟩
  | 46 => ⟨S524288x1, .f32⟩
  | 47 => ⟨S524288x10, .f32⟩
  | 48 => ⟨S524288x10, .f32⟩
  | _ => ⟨S2x64x64x64, .i32⟩

abbrev hbmTy (i : Nat) : BufTy := match i / 128 with
  | 0 => hbmTy0_0 i
  | 1 => hbmTy0_1 i
  | 2 => hbmTy0_2 i
  | _ => ⟨S2x64x64x64, .i32⟩

abbrev bufTy : (tb : Table) → Fin (tcTables nBuf tb) → BufTy
  | .hbm, ⟨i, _⟩ => hbmTy i
  | _, _ => ⟨S2x64x64x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_c_1 : Ref sig .tc := ⟨.hbm, 154, rfl⟩
abbrev main_call1_v0 : Ref sig .tc := ⟨.hbm, 155, rfl⟩
abbrev main_v145 : Ref sig .tc := ⟨.hbm, 156, rfl⟩
abbrev main_cst_2 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_v253 : Ref sig .tc := ⟨.hbm, 265, rfl⟩
abbrev main_v254 : Ref sig .tc := ⟨.hbm, 266, rfl⟩
abbrev main_v255 : Ref sig .tc := ⟨.hbm, 267, rfl⟩
abbrev main_v256 : Ref sig .tc := ⟨.hbm, 268, rfl⟩
abbrev main_v257 : Ref sig .tc := ⟨.hbm, 269, rfl⟩
abbrev main_v258 : Ref sig .tc := ⟨.hbm, 270, rfl⟩
abbrev main_v259 : Ref sig .tc := ⟨.hbm, 271, rfl⟩
abbrev main_v260 : Ref sig .tc := ⟨.hbm, 272, rfl⟩
abbrev main_v261 : Ref sig .tc := ⟨.hbm, 273, rfl⟩
abbrev main_v262 : Ref sig .tc := ⟨.hbm, 274, rfl⟩
abbrev main_v263 : Ref sig .tc := ⟨.hbm, 275, rfl⟩
abbrev main_v264 : Ref sig .tc := ⟨.hbm, 276, rfl⟩
abbrev main_v265 : Ref sig .tc := ⟨.hbm, 277, rfl⟩
abbrev main_v266 : Ref sig .tc := ⟨.hbm, 278, rfl⟩
abbrev main_v267 : Ref sig .tc := ⟨.hbm, 279, rfl⟩
abbrev main_v268 : Ref sig .tc := ⟨.hbm, 280, rfl⟩
abbrev main_v269 : Ref sig .tc := ⟨.hbm, 281, rfl⟩
abbrev main_v270 : Ref sig .tc := ⟨.hbm, 282, rfl⟩
abbrev main_v271 : Ref sig .tc := ⟨.hbm, 283, rfl⟩
abbrev main_v272 : Ref sig .tc := ⟨.hbm, 284, rfl⟩
abbrev main_v273 : Ref sig .tc := ⟨.hbm, 285, rfl⟩
abbrev main_v274 : Ref sig .tc := ⟨.hbm, 286, rfl⟩
abbrev main_v275 : Ref sig .tc := ⟨.hbm, 287, rfl⟩
abbrev main_v276 : Ref sig .tc := ⟨.hbm, 288, rfl⟩
abbrev main_v277 : Ref sig .tc := ⟨.hbm, 289, rfl⟩
abbrev main_v278 : Ref sig .tc := ⟨.hbm, 290, rfl⟩
abbrev main_v279 : Ref sig .tc := ⟨.hbm, 291, rfl⟩
abbrev main_v280 : Ref sig .tc := ⟨.hbm, 292, rfl⟩
abbrev main_v281 : Ref sig .tc := ⟨.hbm, 293, rfl⟩
abbrev main_v282 : Ref sig .tc := ⟨.hbm, 294, rfl⟩
abbrev main_v283 : Ref sig .tc := ⟨.hbm, 295, rfl⟩
abbrev main_v284 : Ref sig .tc := ⟨.hbm, 296, rfl⟩
abbrev main_v285 : Ref sig .tc := ⟨.hbm, 297, rfl⟩
abbrev main_v286 : Ref sig .tc := ⟨.hbm, 298, rfl⟩
abbrev main_v287 : Ref sig .tc := ⟨.hbm, 299, rfl⟩
abbrev main_v288 : Ref sig .tc := ⟨.hbm, 300, rfl⟩
abbrev main_v289 : Ref sig .tc := ⟨.hbm, 301, rfl⟩
abbrev main_v290 : Ref sig .tc := ⟨.hbm, 302, rfl⟩
abbrev main_v291 : Ref sig .tc := ⟨.hbm, 303, rfl⟩
abbrev main_v292 : Ref sig .tc := ⟨.hbm, 304, rfl⟩

abbrev nD : Nat := 1
abbrev τ : Topo := Topo.v7x

variable {F : FTy → Type} [FloatOps F]
-- ==== Proof.Spec.lean ====
module

public import Idealize.ShloMosaic.Lib.Pointwise

@[expose] public section

noncomputable section
namespace Cert.Proof.Spec
open Idealize.ShloMosaic

/-- Numbers on the two grids of voxels. -/
abbrev Grid : Type := Fin 2 → Fin 64 → Fin 64 → Fin 64 → EReal
/-- Weights of the first convolution, by tap and channel. -/
abbrev Wt1 : Type := Fin 3 → Fin 3 → Fin 3 → Fin 16 → EReal
/-- Weights of the second convolution, by tap, input channel and output channel. -/
abbrev Wt2 : Type := Fin 3 → Fin 3 → Fin 3 → Fin 16 → Fin 32 → EReal

/-- The occupancy words as numbers. -/
def occOf (x : (⟨4, ![2, 64, 64, 64]⟩ : Shape).Idx → BitVec 32) : Grid := fun b d y x' => (((x (ix4 b d y x')).toInt : ℝ) : EReal)
/-- The first convolution's weights by tap and channel. -/
def w1Of (x : (⟨5, ![3, 3, 3, 1, 16]⟩ : Shape).Idx → EReal) : Wt1 := fun s t u k => x (ix5 s t u 0 k)
/-- The second convolution's weights by tap, input channel and output channel. -/
def w2Of (x : (⟨5, ![3, 3, 3, 16, 32]⟩ : Shape).Idx → EReal) : Wt2 := fun s t u k h => x (ix5 s t u k h)
/-- The fully connected layer's weights. -/
def fcOf (x : (⟨2, ![10, 32]⟩ : Shape).Idx → EReal) : Fin 10 → Fin 32 → EReal := fun o h => x (ix2 o h)
/-- The fully connected layer's bias. -/
def fbOf (x : (⟨1, ![10]⟩ : Shape).Idx → EReal) : Fin 10 → EReal := fun o => x (ix1 o)

/-- The occupancy grid read in coordinates shifted by two, zero outside the grid. -/
def og (occ : Grid) (b : Fin 2) (p y x : ℕ) : EReal :=
  if h : (2 ≤ p ∧ p < 66) ∧ (2 ≤ y ∧ y < 66) ∧ (2 ≤ x ∧ x < 66) then
    occ b ⟨p - 2, by omega⟩ ⟨y - 2, by omega⟩ ⟨x - 2, by omega⟩
  else 0

/-- Channel `k` of the first masked convolution at shifted coordinates. -/
def y1 (occ : Grid) (w1 : Wt1) (b : Fin 2) (p y x : ℕ) (k : Fin 16) : EReal :=
  (∑ s : Fin 3, ∑ t : Fin 3, ∑ u : Fin 3, og occ b (p + s.val - 1) (y + t.val - 1) (x + u.val - 1) * w1 s t u k) * og occ b p y x

/-- Column `o` of the network's output at a voxel: the second masked convolution, the fully connected layer, the mask. -/
def out (occ : Grid) (w1 : Wt1) (w2 : Wt2) (fc : Fin 10 → Fin 32 → EReal) (fb : Fin 10 → EReal) (b : Fin 2) (d y x : Fin 64) (o : Fin 10) : EReal :=
  ((∑ h : Fin 32, ((∑ s : Fin 3, ∑ t : Fin 3, ∑ u : Fin 3, ∑ k : Fin 16,
      y1 occ w1 b (d.val + s.val + 1) (y.val + t.val + 1) (x.val + u.val + 1) k * w2 s t u k h) * occ b d y x) * fc o h) + fb o) * occ b d y x

/-- The network's output array. -/
def outArr (x0 : (⟨4, ![2, 64, 64, 64]⟩ : Shape).Idx → BitVec 32) (x1 : (⟨5, ![3, 3, 3, 1, 16]⟩ : Shape).Idx → EReal)
    (x2 : (⟨5, ![3, 3, 3, 16, 32]⟩ : Shape).Idx → EReal) (x3 : (⟨2, ![10, 32]⟩ : Shape).Idx → EReal) (x4 : (⟨1, ![10]⟩ : Shape).Idx → EReal) :
    (⟨2, ![524288, 10]⟩ : Shape).Idx → EReal :=
  fun j => out (occOf x0) (w1Of x1) (w2Of x2) (fcOf x3) (fbOf x4)
    ⟨(j 0).val / 262144, by have h : (j 0).val < 524288 := (j 0).isLt; omega⟩ ⟨(j 0).val / 4096 % 64, by omega⟩ ⟨(j 0).val / 64 % 64, by omega⟩
    ⟨(j 0).val % 64, by omega⟩ (j 1)

/-- Inside the grid the shifted grid is the grid. -/
theorem og_inside (occ : Grid) (b : Fin 2) (d y x : Fin 64) : og occ b (d.val + 2) (y.val + 2) (x.val + 2) = occ b d y x := by
  unfold og
  rw [dif_pos (by omega)]
  congr 1

end Cert.Proof.Spec
end
-- ==== Proof.Equation.lean ====
module

public import proofs.«01_k».proof.Proof.Spec

@[expose] public section

noncomputable section
namespace Cert.Proof.Equation
open Idealize.ShloMosaic Cert.Proof.Spec

/-- The value is a real number. -/
def IsReal (x : EReal) : Prop := ∃ r : ℝ, (r : EReal) = x

/-- A finite sum of reals, summed among the reals or among the extended reals. -/
theorem coe_sum {ι : Type} [Fintype ι] (f : ι → ℝ) : ((∑ i, f i : ℝ) : EReal) = ∑ i, (f i : EReal) := by
  classical
  induction (Finset.univ : Finset ι) using Finset.induction_on with
  | empty => rfl
  | insert a s ha ih => rw [Finset.sum_insert ha, Finset.sum_insert ha, EReal.coe_add, ih]

/-- Zero is real. -/
theorem real_zero : IsReal 0 := ⟨0, rfl⟩

/-- A product of reals is real. -/
theorem real_mul {a b : EReal} (ha : IsReal a) (hb : IsReal b) : IsReal (a * b) := by
  obtain ⟨r, rfl⟩ := ha
  obtain ⟨s, rfl⟩ := hb
  exact ⟨r * s, EReal.coe_mul r s⟩

/-- A finite sum of reals is real. -/
theorem real_sum {ι : Type} [Fintype ι] {f : ι → EReal} (h : ∀ i, IsReal (f i)) : IsReal (∑ i, f i) := by
  choose r hr using h
  exact ⟨∑ i, r i, (coe_sum r).trans (Finset.sum_congr rfl fun i _ => hr i)⟩

/-- A grid of reals read in shifted coordinates is real. -/
theorem real_og {occ : Grid} (h : ∀ b d y x, IsReal (occ b d y x)) (b : Fin 2) (p y x : ℕ) : IsReal (og occ b p y x) := by
  unfold og
  split
  · exact h _ _ _ _
  · exact real_zero

/-- The first masked convolution of reals is real. -/
theorem real_y1 {occ : Grid} {w1 : Wt1} (h : ∀ b d y x, IsReal (occ b d y x)) (hw : ∀ s t u k, IsReal (w1 s t u k))
    (b : Fin 2) (p y x : ℕ) (k : Fin 16) : IsReal (y1 occ w1 b p y x k) :=
  real_mul (real_sum fun _ => real_sum fun _ => real_sum fun _ => real_mul (real_og h _ _ _ _) (hw _ _ _ _)) (real_og h _ _ _ _)

/-- Among the reals, weights folded with the last layer first give what the two layers give one after the other. -/
theorem fold_real (Y : Fin 3 → Fin 3 → Fin 3 → Fin 16 → ℝ) (W : Fin 3 → Fin 3 → Fin 3 → Fin 16 → Fin 32 → ℝ) (F : Fin 32 → ℝ) :
    (∑ e : Fin 3, ∑ d : Fin 3, ∑ a : Fin 3, ∑ k : Fin 16, Y a e d k * ∑ h : Fin 32, W a e d k h * F h)
      = ∑ h : Fin 32, (∑ a : Fin 3, ∑ e : Fin 3, ∑ d : Fin 3, ∑ k : Fin 16, Y a e d k * W a e d k h) * F h := by
  simp only [Finset.mul_sum, Finset.sum_mul, mul_assoc]
  symm
  refine Finset.sum_comm.trans ((Finset.sum_congr rfl fun a _ => Finset.sum_comm.trans (Finset.sum_congr rfl fun e _ =>
    Finset.sum_comm.trans (Finset.sum_congr rfl fun d _ => Finset.sum_comm))).trans ?_)
  exact Finset.sum_comm.trans (Finset.sum_congr rfl fun e _ => Finset.sum_comm)

/-- The same among extended reals that are real. -/
theorem fold_eq (Y : Fin 3 → Fin 3 → Fin 3 → Fin 16 → EReal) (W : Fin 3 → Fin 3 → Fin 3 → Fin 16 → Fin 32 → EReal) (F : Fin 32 → EReal)
    (hY : ∀ a e d k, IsReal (Y a e d k)) (hW : ∀ a e d k h, IsReal (W a e d k h)) (hF : ∀ h, IsReal (F h)) :
    (∑ e : Fin 3, ∑ d : Fin 3, ∑ a : Fin 3, ∑ k : Fin 16, Y a e d k * ∑ h : Fin 32, W a e d k h * F h)
      = ∑ h : Fin 32, (∑ a : Fin 3, ∑ e : Fin 3, ∑ d : Fin 3, ∑ k : Fin 16, Y a e d k * W a e d k h) * F h := by
  choose y hy using hY
  choose w hw using hW
  choose f hf using hF
  simp only [← hy, ← hw, ← hf, ← EReal.coe_mul, ← coe_sum]
  exact congrArg _ (fold_real y w f)

/-- What the kernel's block computes at a voxel is the network's output there: the mask is zero or one, and the weights are real. -/
theorem out_eq {occ : Grid} {w1 : Wt1} {w2 : Wt2} {fc : Fin 10 → Fin 32 → EReal} (fb : Fin 10 → EReal)
    (hocc : ∀ b d y x, occ b d y x = 0 ∨ occ b d y x = 1) (hw1 : ∀ s t u k, IsReal (w1 s t u k))
    (hw2 : ∀ s t u k h, IsReal (w2 s t u k h)) (hfc : ∀ o h, IsReal (fc o h))
    (b : Fin 2) (s : Fin 5) (q : Fin 14) (d y x : Fin 64) (o : Fin 10) (hd : 14 * s.val + q.val = d.val) :
    ((∑ e : Fin 3, ∑ u : Fin 3, ∑ a : Fin 3, ∑ k : Fin 16,
          y1 occ w1 b (14 * s.val + (q.val + a.val) + 1) (y.val + e.val + 1) (x.val + u.val + 1) k * ∑ h : Fin 32, w2 a e u k h * fc o h)
        + fb o) * og occ b (14 * s.val + q.val + 2) (y.val + 2) (x.val + 2)
      = out occ w1 w2 fc fb b d y x o := by
  have hr : ∀ b d y x, IsReal (occ b d y x) := fun b d y x => by
    rcases hocc b d y x with h | h <;> rw [h]
    · exact real_zero
    · exact ⟨1, rfl⟩
  have hp : ∀ a : ℕ, 14 * s.val + (q.val + a) + 1 = d.val + a + 1 := fun a => by omega
  simp only [hp, hd, og_inside]
  unfold out
  rcases hocc b d y x with h | h
  · rw [h, mul_zero, mul_zero]
  · simp only [h, mul_one]
    exact congrArg (· + fb o) (fold_eq (fun a e u k => y1 occ w1 b (d.val + a.val + 1) (y.val + e.val + 1) (x.val + u.val + 1) k) w2 (fc o)
      (fun _ _ _ _ => real_y1 hr hw1 _ _ _ _ _) hw2 (hfc o))

end Cert.Proof.Equation
end
-- ==== Proof.Given.lean ====
module

public import proofs.«01_k».proof.Proof.Gen.Pre_pre
public import proofs.«01_k».proof.Proof.Equation
public import Idealize.ShloMosaic.Lib.ReduceAll
public import Idealize.ShloMosaic.Lib.Affine

@[expose] public section

noncomputable section
namespace Cert.Proof.Given
open Cert.Pre_pre Idealize.ShloMosaic Cert.Proof.Equation

/-- The word the precondition compares with stands for infinity. -/
theorem word_inf : (FloatOps.ofBits (F := Ideal) .f32 0x7F800000#32 : EReal) = ⊤ := by
  show Ideal.ofBits .f32 0x7F800000#32 = ⊤
  simp [Ideal.ofBits, Ideal.ieee]

/-- An extended real whose absolute value is below infinity is real. -/
theorem real_of_lt {x : EReal} (h : FloatOps.cmpf (F := Ideal) (φ := .f32) .olt (FloatOps.absf (F := Ideal) (φ := .f32) x) (FloatOps.ofBits (F := Ideal) .f32 0x7F800000#32) = 1#1) :
    IsReal x := by
  rw [word_inf] at h
  change BitVec.ofBool (decide (max x (-x) < ⊤)) = 1#1 at h
  have h' : max x (-x) < ⊤ := by
    by_contra hn
    rw [decide_eq_false hn] at h
    exact absurd h (by decide)
  have h1 := lt_of_le_of_lt (le_max_left x (-x)) h'
  have h2 := lt_of_le_of_lt (le_max_right x (-x)) h'
  refine ⟨x.toReal, EReal.coe_toReal h1.ne fun hb => ?_⟩
  rw [hb] at h2
  exact absurd h2 (by simp)

/-- What the precondition says of the arrays: occupancies are zero or one, the three weight arrays are real. -/
theorem given (x0 : IVec S2x64x64x64 32) (x1 : FVec Ideal S3x3x3x1x16 .f32) (x2 : FVec Ideal S3x3x3x16x32 .f32) (x3 : FVec Ideal S10x32 .f32)
    (x4 : FVec Ideal S10 .f32) (h : Cert.Pre_pre.fn (F := Ideal) x0 x1 x2 x3 x4 = fun _ => 1#1) :
    (∀ i, x0 i = 0#32 ∨ x0 i = 1#32) ∧ (∀ i, IsReal (x1 i)) ∧ (∀ i, IsReal (x2 i)) ∧ (∀ i, IsReal (x3 i)) := by
  have hj := congrFun h (fun a : Fin 0 => a.elim0)
  dsimp only [Cert.Pre_pre.fn, Cert.Pre_pre.fn_part1] at hj
  obtain ⟨hj, h3⟩ := IntOp.andi_eq_one.1 hj
  obtain ⟨hj, h2⟩ := IntOp.andi_eq_one.1 hj
  obtain ⟨h0, h1⟩ := IntOp.andi_eq_one.1 hj
  haveI : Subsingleton S_.Idx := ⟨fun a b => funext fun k => k.elim0⟩
  refine ⟨fun i => ?_, fun i => real_of_lt (Host.reduce_andi_all _ _ _ _ _ h1 i), fun i => real_of_lt (Host.reduce_andi_all _ _ _ _ _ h2 i),
    fun i => real_of_lt (Host.reduce_andi_all _ _ _ _ _ h3 i)⟩
  rcases IntOp.ori_eq_one.1 (Host.reduce_andi_all _ _ _ _ _ h0 i) with h | h
  · exact Or.inl (IntOp.cmpi_eq.1 h)
  · exact Or.inr (IntOp.cmpi_eq.1 h)

end Cert.Proof.Given
end
-- ==== Proof.Ref.lean ====
module

public import proofs.«01_k».proof.Proof.Gen.ReferenceIdeal.Run
public import proofs.«01_k».proof.Proof.Spec

@[expose] public section

set_option maxRecDepth 16384
noncomputable section
namespace Cert.Proof.Ref
open Cert.ReferenceIdeal Cert.ReferenceIdeal.Gen Cert.ReferenceIdeal.Value Idealize.ShloMosaic Idealize.ShloMosaic.TcCoe Idealize.SL.Sem Cert.Proof.Spec

variable (V0 : Valuation τ sig (Elt Ideal))

/-- The arguments' contents as arrays. -/
abbrev a0 : Vec Ideal S2x64x64x64 .i32 := V0 (Proc.devRef .tc main_arg0)
/-- The first convolution's weights. -/
abbrev a1 : Vec Ideal S3x3x3x1x16 .f32 := V0 (Proc.devRef .tc main_arg1)
/-- The second convolution's weights. -/
abbrev a2 : Vec Ideal S3x3x3x16x32 .f32 := V0 (Proc.devRef .tc main_arg2)
/-- The last layer's weights. -/
abbrev a3 : Vec Ideal S10x32 .f32 := V0 (Proc.devRef .tc main_arg3)
/-- The last layer's bias. -/
abbrev a4 : Vec Ideal S10 .f32 := V0 (Proc.devRef .tc main_arg4)

/-- The stages the later ones read, as arrays of numbers. -/
abbrev maskArr : Vec Ideal S2x64x64x64x1 .f32 := res_main_v4 V0
/-- The mask with a border of one zero voxel. -/
abbrev occPad : Vec Ideal S2x66x66x66x1 .f32 := res_main_v6 V0
/-- The first masked convolution with a border of one zero voxel. -/
abbrev y1Pad : Vec Ideal S2x66x66x66x16 .f32 := res_main_v145 V0

/-- Where the occupancy is 0 or 1, the mask is the occupancy. -/
theorem mask_at (h01 : ∀ i, a0 V0 i = 0#32 ∨ a0 V0 i = 1#32) (b : Fin 2) (z y x : Fin 64) :
    maskArr V0 (ix5 b z y x 0) = occOf (a0 V0) b z y x := by
  unfold maskArr occOf
  pointwise [res_main_v4, res_main_v0]
  show FloatOps.uitofp (F := Ideal) FTy.f32 (BitVec.ofBool (decide ((((a0 V0 (ix4 b z y x)).toInt : ℝ) : EReal) ≠ 0))) = (((a0 V0 (ix4 b z y x)).toInt : ℝ) : EReal)
  rcases h01 (ix4 b z y x) with h | h
  · rw [h]
    have : decide ((((0#32 : BitVec 32).toInt : ℝ) : EReal) ≠ 0) = false := by simp
    rw [this]
    show (((0 : ℕ) : ℝ) : EReal) = _
    simp
  · rw [h]
    have e : (1#32 : BitVec 32).toInt = 1 := by decide
    rw [e]
    have : decide ((((1 : ℤ) : ℝ) : EReal) ≠ 0) = true := by simp
    rw [this]
    show (((1 : ℕ) : ℝ) : EReal) = _
    simp

/-- The padded occupancy is the grid in shifted coordinates. -/
theorem pad_at (b : Fin 2) (z y x : Fin 66) :
    occPad V0 (ix5 b z y x 0) = og (occOf (a0 V0)) b (z.val + 1) (y.val + 1) (x.val + 1) := by
  unfold occPad og occOf
  pointwise [res_main_v6, res_main_v0]
  by_cases h : (1 ≤ z.val ∧ z.val - 1 < 64) ∧ (1 ≤ y.val ∧ y.val - 1 < 64) ∧ 1 ≤ x.val ∧ x.val - 1 < 64
  · rw [dif_pos h, dif_pos (by omega)]
    rfl
  · rw [dif_neg h, dif_neg (by omega)]
    show ((((0#32 : BitVec 32).toInt : ℤ) : ℝ) : EReal) = 0
    simp

/-- The shifted grid depends on the numbers of its coordinates. -/
theorem og_congr (occ : Grid) (b : Fin 2) {p y x p' y' x' : ℕ} (hp : p = p') (hy : y = y') (hx : x = x') : og occ b p y x = og occ b p' y' x' := by
  rw [hp, hy, hx]

/-- Sums of equal terms are equal. -/
theorem add_eq {p q p' q' : EReal} (h : p = p') (h' : q = q') : p + q = p' + q' := by rw [h, h']

/-- So does the first layer. -/
theorem y1_congr (occ : Grid) (w1 : Wt1) (b : Fin 2) {p y x p' y' x' : ℕ} (hp : p = p') (hy : y = y') (hx : x = x') (k : Fin 16) :
    y1 occ w1 b p y x k = y1 occ w1 b p' y' x' k := by
  rw [hp, hy, hx]

/-- An array padded by one along its three spatial axes, at an index. -/
theorem pad_apply5 (A : Vec Ideal S2x64x64x64x16 .f32) (v : Vec Ideal S_ .f32)
    (hp : S2x64x64x64x16.Pads ![0, 1, 1, 1, 0] ![0, 1, 1, 1, 0] ![0, 0, 0, 0, 0] S2x66x66x66x16) (hu : 0 < S_.numel) (b : Fin 2) (z y x : Fin 66) (k : Fin 16) :
    pad S2x66x66x66x16 ![0, 1, 1, 1, 0] ![0, 1, 1, 1, 0] ![0, 0, 0, 0, 0] A v hp hu (ix5 b z y x k)
      = if h : (1 ≤ z.val ∧ z.val - 1 < 64) ∧ (1 ≤ y.val ∧ y.val - 1 < 64) ∧ 1 ≤ x.val ∧ x.val - 1 < 64 then
          A (ix5 b ⟨z.val - 1, h.1.2⟩ ⟨y.val - 1, h.2.1.2⟩ ⟨x.val - 1, h.2.2.2⟩ k)
        else v (Shape.Idx.first hu) := by
  pointwise

/-- The padded first layer is `y1` in shifted coordinates. -/
theorem y1_at (h01 : ∀ i, a0 V0 i = 0#32 ∨ a0 V0 i = 1#32) (b : Fin 2) (z y x : Fin 66) (k : Fin 16) :
    y1Pad V0 (ix5 b z y x k) = y1 (occOf (a0 V0)) (w1Of (a1 V0)) b (z.val + 1) (y.val + 1) (x.val + 1) k := by
  unfold y1Pad y1 res_main_v145
  rw [pad_apply5]
  by_cases h : (1 ≤ z.val ∧ z.val - 1 < 64) ∧ (1 ≤ y.val ∧ y.val - 1 < 64) ∧ 1 ≤ x.val ∧ x.val - 1 < 64
  · rw [dif_pos h]
    pointwise [res_main_v117, res_main_v62]
    refine congrArg₂ (fun p q : EReal => p * q) ?_ ?_
    · simp only [Fin.sum_univ_three, Finset.univ_unique, Finset.sum_singleton, ← add_assoc (G := EReal)]
      repeat' with_reducible refine add_eq ?_ ?_
      all_goals
        refine congrArg₂ (fun p q : EReal => p * q) ((pad_at V0 _ _ _ _).trans (og_congr _ _ ?_ ?_ ?_)) rfl
        all_goals simp only [Fin.val_zero, Fin.val_one, Fin.val_two] <;> omega
    · refine (mask_at V0 h01 _ _ _ _).trans ((og_inside _ _ _ _ _).symm.trans (og_congr _ _ ?_ ?_ ?_))
      all_goals simp only [] <;> omega
  · rw [dif_neg h]
    have e : og (occOf (a0 V0)) b (z.val + 1) (y.val + 1) (x.val + 1) = 0 := by
      unfold og
      rw [dif_neg (by omega)]
    rw [e, mul_zero]
    show ((((0#32 : BitVec 32).toInt : ℤ) : ℝ) : EReal) = 0
    simp

/-- The reference's result is the network's output array of its arguments. -/
theorem result (m : (ℓ : Loc nD τ sig) → Buf (Elt Ideal) ℓ) (ρ : Dev nD → PrngReg)
    (h01 : ∀ c i, a0 (StableHlo.launchContents m c) i = 0#32 ∨ a0 (StableHlo.launchContents m c) i = 1#32) :
    θ_run (defs (F := Ideal)) (onTc (τ := τ) (main (F := Ideal))) ⟨m, fun _ => 0, ρ⟩ fun r => ∀ c : Dev nD,
      r.2.mem ((c.tc : Thread nD τ).loc main_v292)
        = outArr (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (run m ρ)
  have h01 := h01 c
  show _ = outArr (a0 (StableHlo.launchContents m c)) (a1 (StableHlo.launchContents m c)) (a2 (StableHlo.launchContents m c)) (a3 (StableHlo.launchContents m c)) (a4 (StableHlo.launchContents m c))
  generalize StableHlo.launchContents m c = V0 at h01 ⊢
  funext j
  unfold outArr out
  pointwise [res_main_v256, res_main_v201]
  refine congrArg₂ (fun p q : EReal => p * q) (congrArg₂ (fun p q : EReal => p + q) (Finset.sum_congr rfl fun h _ => ?_) rfl) (mask_at V0 h01 _ _ _ _)
  refine congrArg₂ (fun p q : EReal => p * q) (congrArg₂ (fun p q : EReal => p * q) ?_ (mask_at V0 h01 _ _ _ _)) rfl
  simp only [Fin.sum_univ_three, ← add_assoc (G := EReal)]
  repeat' with_reducible refine add_eq ?_ ?_
  all_goals
    refine Finset.sum_congr rfl fun k _ => ?_
    refine congrArg₂ (fun p q : EReal => p * q) ((y1_at V0 h01 _ _ _ _ _).trans (y1_congr _ _ _ ?_ ?_ ?_ k)) rfl
    all_goals simp only [Fin.val_zero, Fin.val_one, Fin.val_two] <;> omega
end Cert.Proof.Ref
end
-- ==== Proof.Body.lean ====
module

public import proofs.«01_k».proof.Proof.Gen.KernelIdeal.Frame
public import Idealize.ShloMosaic.Lib.Pipeline.Value
public import Idealize.ShloMosaic.Lib.Pipeline.ValueKit
public import Idealize.ShloMosaic.Lib.Pointwise
public import Idealize.ShloMosaic.Lib.Pipeline.ReadBack

@[expose] public section

set_option maxRecDepth 16384
noncomputable section
namespace Cert.Proof.Body
open Cert.KernelIdeal Cert.KernelIdeal.Gen Idealize.ShloMosaic Idealize.ShloMosaic.TcCoe Idealize.SL.Sem

/-- The first pass of nine taps, at an element: the nine products of a loaded row and its weight row, summed from the left. -/
theorem pass0_apply (a0 a1 a2 a3 a4 a5 a6 a7 a8 : Vec Ideal S1x1x4624x256 .f32) (w0 w1 w2 w3 w4 w5 w6 w7 w8 : Vec Ideal S1x256 .f32)
    (r : Fin 4624) (l : Fin 256) :
    k0_pay10 (k0_pay9 (k0_pay6 a0 w0) (k0_pay7 a1) (k0_pay8 w1) a2 w2 a3 w3 a4 w4 a5 w5) a6 w6 a7 w7 a8 w8 (ix2 r l)
      = a0 (ix4 0 0 r l) * w0 (ix2 0 l) + a1 (ix4 0 0 r l) * w1 (ix2 0 l) + a2 (ix4 0 0 r l) * w2 (ix2 0 l)
        + a3 (ix4 0 0 r l) * w3 (ix2 0 l) + a4 (ix4 0 0 r l) * w4 (ix2 0 l) + a5 (ix4 0 0 r l) * w5 (ix2 0 l)
        + a6 (ix4 0 0 r l) * w6 (ix2 0 l) + a7 (ix4 0 0 r l) * w7 (ix2 0 l) + a8 (ix4 0 0 r l) * w8 (ix2 0 l) := by
  pointwise [k0_pay10, k0_pay9, k0_pay6, k0_pay7, k0_pay8]

/-- The second pass of nine taps, at an element: the first pass's sum plus nine products. -/
theorem pass1_apply (p : Vec Ideal S4624x256 .f32) (a0 a1 a2 a3 a4 a5 a6 a7 a8 : Vec Ideal S4624x256 .f32) (w0 w1 w2 w3 w4 w5 w6 w7 w8 : Vec Ideal S1x256 .f32)
    (r : Fin 4624) (l : Fin 256) :
    k0_pay13 p (k0_pay12 (k0_pay11 a0 w0) a1 w1 a2 w2 a3 w3 a4 w4 a5 w5) a6 w6 a7 w7 a8 w8 (ix2 r l)
      = p (ix2 r l) + (a0 (ix2 r l) * w0 (ix2 0 l) + a1 (ix2 r l) * w1 (ix2 0 l) + a2 (ix2 r l) * w2 (ix2 0 l)
        + a3 (ix2 r l) * w3 (ix2 0 l) + a4 (ix2 r l) * w4 (ix2 0 l) + a5 (ix2 r l) * w5 (ix2 0 l)
        + a6 (ix2 r l) * w6 (ix2 0 l) + a7 (ix2 r l) * w7 (ix2 0 l) + a8 (ix2 r l) * w8 (ix2 0 l)) := by
  pointwise [k0_pay13, k0_pay12, k0_pay11]

/-- The third pass of nine taps, at an element: the sum so far plus nine products, times the occupancy. -/
theorem pass2_apply (p o : Vec Ideal S4624x256 .f32) (a0 a1 a2 a3 a4 a5 a6 a7 a8 : Vec Ideal S4624x256 .f32) (w0 w1 w2 w3 w4 w5 w6 w7 w8 : Vec Ideal S1x256 .f32)
    (r : Fin 4624) (l : Fin 256) :
    k0_pay17 (k0_pay15 (k0_pay14 a0 w0 a1 w1) a2 w2 a3 w3 a4 w4 a5 w5 a6 w6) (k0_pay16 a7 w7) a8 w8 p o (ix2 r l)
      = (p (ix2 r l) + (a0 (ix2 r l) * w0 (ix2 0 l) + a1 (ix2 r l) * w1 (ix2 0 l) + a2 (ix2 r l) * w2 (ix2 0 l)
        + a3 (ix2 r l) * w3 (ix2 0 l) + a4 (ix2 r l) * w4 (ix2 0 l) + a5 (ix2 r l) * w5 (ix2 0 l)
        + a6 (ix2 r l) * w6 (ix2 0 l) + a7 (ix2 r l) * w7 (ix2 0 l) + a8 (ix2 r l) * w8 (ix2 0 l))) * o (ix2 r l) := by
  pointwise [k0_pay17, k0_pay16, k0_pay15, k0_pay14]

/-- The last payload, at an element: nine shifted products and the bias, times the occupancy. -/
theorem last_apply (d0 d1 d2 d3 d4 d5 d6 d7 d8 : Vec Ideal S4624x256 .f32) (f : Vec Ideal S1x256 .f32) (o : Vec Ideal S4624x256 .f32)
    (r : Fin 4624) (l : Fin 224) :
    k0_pay2 (k0_pay27 (k0_pay22 d0 d1 d2 d3) d4 d5 d6 d7) d8 f o (ix4 0 0 r l)
      = (d0 (ix2 r ⟨l.val, by omega⟩) + d1 (ix2 r ⟨l.val, by omega⟩) + d2 (ix2 r ⟨l.val, by omega⟩) + d3 (ix2 r ⟨l.val, by omega⟩)
         + d4 (ix2 r ⟨l.val, by omega⟩) + d5 (ix2 r ⟨l.val, by omega⟩) + d6 (ix2 r ⟨l.val, by omega⟩) + d7 (ix2 r ⟨l.val, by omega⟩)
         + d8 (ix2 r ⟨l.val, by omega⟩) + f (ix2 0 ⟨l.val, by omega⟩)) * o (ix2 r ⟨l.val, by omega⟩) := by
  pointwise [k0_pay2, k0_pay27, k0_pay22]

/-- What the three passes leave for the interior rows: the sum over the 27 taps of a shifted row of the window
    times the tap's weight row, times the window's own middle slab. -/
def yin (x0 : Vec Ideal S1x1x4768x288 .f32) (x3 : Vec Ideal S27x256 .f32) (r : Fin 4624) (l : Fin 256) : EReal :=
  (∑ a : Fin 3, ∑ b : Fin 3, ∑ d : Fin 3,
      x0 (ix4 0 0 ⟨3 + 68 * b.val + d.val + r.val, by omega⟩ ⟨16 * a.val + l.val, by omega⟩) * x3 (ix2 ⟨9 * a.val + 3 * b.val + d.val, by omega⟩ l))
    * x0 (ix4 0 0 ⟨72 + r.val, by omega⟩ ⟨16 + l.val, by omega⟩)

/-- What a later point of a row of blocks stores in the column array: the three passes' sums on the interior rows. -/
theorem ypay_B (c : Dev nD) (arg2 : Memref sig .tc .vmem S1x1x4768x288 .f32) (harg2 : arg2.IsWhole) (arg5 : Memref sig .tc .vmem S27x256 .f32) (harg5 : arg5.IsWhole) (arg7 arg8 arg9 : Memref sig .tc .vmem S4768x256 .f32)
    (x0 : Vec Ideal S1x1x4768x288 .f32) (x3 : Vec Ideal S27x256 .f32) :
    kernelRun0_B.sl.HS3_1 c arg2 harg2 arg5 harg5 arg7 arg8 arg9 x0 x3
      = [⟨Rect.unit ![72, 0] S4624x256.size inb_S4768x256_S4624x256_72_0, fun j => yin x0 x3 (j 0) (j 1)⟩] := by
  unfold kernelRun0_B.sl.HS3_1
  refine congrArg (fun w => [(⟨_, w⟩ : View.Piece (Elt Ideal) S4768x256 .bf16)]) (funext fun j => ?_)
  idx_vars j
  sl_unfold_words
  rw [pass2_apply, View.readCov_cons_toLoadRect, pass1_apply, View.readCov_cons_toLoadRect, pass0_apply]
  simp (disch := decide) only [View.readCov_fill]
  simp only [View.readAt_eq_ld, harg2.read_unread, harg5.read_unread]
  pointwise [k0_pay4, k0_pay5, yin]
  congr 1
  simp only [Fin.sum_univ_three, Fin.isValue, Fin.val_zero, Fin.val_one, Fin.val_two, Nat.mul_zero, Nat.mul_one, Nat.add_zero,
    Nat.zero_add, Nat.reduceMul, Nat.reduceAdd, Fin.eta]
  simp only [add_assoc (G := EReal)]
  rfl

/-- What the first point of a row of blocks stores in the column array: zeros everywhere, then the three passes' sums on the interior rows. -/
theorem ypay_A (c : Dev nD) (arg2 : Memref sig .tc .vmem S1x1x4768x288 .f32) (harg2 : arg2.IsWhole) (arg5 : Memref sig .tc .vmem S27x256 .f32) (harg5 : arg5.IsWhole) (arg7 arg8 arg9 : Memref sig .tc .vmem S4768x256 .f32)
    (x0 : Vec Ideal S1x1x4768x288 .f32) (x3 : Vec Ideal S27x256 .f32) :
    kernelRun0_A.sl.HS3_2 c arg2 harg2 arg5 harg5 arg7 arg8 arg9 x0 x3
      = [⟨Rect.unit ![72, 0] S4624x256.size inb_S4768x256_S4624x256_72_0, fun j => yin x0 x3 (j 0) (j 1)⟩,
         ⟨Rect.unit ![0, 0] S4768x256.size inb_S4768x256_S4768x256_0_0, (k0_pay3 : FVec Ideal S4768x256 .bf16)⟩] :=
  (show kernelRun0_A.sl.HS3_2 c arg2 harg2 arg5 harg5 arg7 arg8 arg9 x0 x3
    = kernelRun0_B.sl.HS3_1 c arg2 harg2 arg5 harg5 arg7 arg8 arg9 x0 x3
      ++ [⟨Rect.unit ![0, 0] S4768x256.size inb_S4768x256_S4768x256_0_0, (k0_pay3 : FVec Ideal S4768x256 .bf16)⟩] from rfl).trans
    (by rw [ypay_B]; rfl)

/-- The column array a grid point leaves: the interior rows hold the three passes' sums, the other rows what they held before. -/
def ycat (z : Vec Ideal S4768x256 .bf16) (x0 : Vec Ideal S1x1x4768x288 .f32) (x3 : Vec Ideal S27x256 .f32) : Vec Ideal S4768x256 .bf16 :=
  fun j => if h : 72 ≤ (j 0).val ∧ (j 0).val < 4696 then yin x0 x3 ⟨(j 0).val - 72, by omega⟩ (j 1) else z j

/-- Reading after a store into rows 72 to 4695: the payload on those rows, what was there before elsewhere. -/
theorem read_rows (v : View sig .tc .vmem S4768x256 .bf16) (f : v.ty.Contents (Elt Ideal)) (w : S4624x256.Idx → Elt Ideal .bf16)
    (L : List (View.Piece (Elt Ideal) S4768x256 .bf16)) (R : Fin 4768) (l : Fin 256) :
    v.read (Elt Ideal) (v.writes (Elt Ideal) f (⟨Rect.unit ![72, 0] S4624x256.size inb_S4768x256_S4624x256_72_0, w⟩ :: L)) (ix2 R l)
      = if h : 72 ≤ R.val ∧ R.val < 4696 then w (ix2 (⟨R.val - 72, by omega⟩ : Fin 4624) l) else v.read (Elt Ideal) (v.writes (Elt Ideal) f L) (ix2 R l) := by
  by_cases h : 72 ≤ R.val ∧ R.val < 4696
  · rw [dif_pos h]
    have e : (Rect.unit (s := S4768x256) ![72, 0] S4624x256.size inb_S4768x256_S4624x256_72_0).emb (ix2 (⟨R.val - 72, by omega⟩ : Fin 4624) l : S4624x256.Idx)
        = ix2 R l := by
      funext a
      refine Fin.ext ((Rect.idx_unit_val _ _ _ _ a).trans ?_)
      match a with
      | ⟨0, _⟩ => exact Nat.add_sub_cancel' h.1
      | ⟨1, _⟩ => exact Nat.zero_add _
    exact View.read_writes_cons_hit v f (Rect.unit (s := S4768x256) ![72, 0] S4624x256.size inb_S4768x256_S4624x256_72_0) w L
      (ix2 (⟨R.val - 72, by omega⟩ : Fin 4624) l : S4624x256.Idx) (ix2 R l) e
  · rw [dif_neg h]
    refine View.read_writes_cons_miss_of_axis v f _ L (ix2 R l) 0 72 4624 rfl rfl rfl ?_
    have : (ix2 R l 0).val = R.val := rfl
    omega

/-- The column array after a later grid point's stores. -/
theorem ycat_B (c : Dev nD) (arg2 : Memref sig .tc .vmem S1x1x4768x288 .f32) (harg2 : arg2.IsWhole) (arg5 : Memref sig .tc .vmem S27x256 .f32) (harg5 : arg5.IsWhole) (arg7 arg8 arg9 : Memref sig .tc .vmem S4768x256 .f32)
    (arg10 : Memref sig .tc .vmem S4768x256 .bf16) (harg10 : arg10.IsWhole)
    (x0 : Vec Ideal S1x1x4768x288 .f32) (x3 : Vec Ideal S27x256 .f32) (xs3 : Vec Ideal S4768x256 .bf16) :
    arg10.view.read (Elt Ideal) (arg10.view.writes (Elt Ideal) (harg10.unread xs3) (kernelRun0_B.sl.HS3_1 c arg2 harg2 arg5 harg5 arg7 arg8 arg9 x0 x3)) = ycat xs3 x0 x3 := by
  funext y
  obtain ⟨R, l, rfl⟩ : ∃ (R : Fin 4768) (l : Fin 256), y = ix2 R l := ⟨y 0, y 1, eq_ix2 y⟩
  rw [ypay_B, read_rows, View.writes_nil, harg10.read_unread]
  rfl

/-- The column array after the first grid point's stores: zero outside the interior rows. -/
theorem ycat_A (c : Dev nD) (arg2 : Memref sig .tc .vmem S1x1x4768x288 .f32) (harg2 : arg2.IsWhole) (arg5 : Memref sig .tc .vmem S27x256 .f32) (harg5 : arg5.IsWhole) (arg7 arg8 arg9 : Memref sig .tc .vmem S4768x256 .f32)
    (v : View sig .tc .vmem S4768x256 .bf16) (f : v.ty.Contents (Elt Ideal))
    (x0 : Vec Ideal S1x1x4768x288 .f32) (x3 : Vec Ideal S27x256 .f32) :
    v.read (Elt Ideal) (v.writes (Elt Ideal) f (kernelRun0_A.sl.HS3_2 c arg2 harg2 arg5 harg5 arg7 arg8 arg9 x0 x3)) = ycat (fun _ => 0) x0 x3 := by
  funext y
  obtain ⟨R, l, rfl⟩ : ∃ (R : Fin 4768) (l : Fin 256), y = ix2 R l := ⟨y 0, y 1, eq_ix2 y⟩
  rw [ypay_A, read_rows]
  unfold ycat
  congr 1
  funext h
  have e : (Rect.unit (s := S4768x256) ![0, 0] S4768x256.size inb_S4768x256_S4768x256_0_0).emb (ix2 R l : S4768x256.Idx) = ix2 R l := by
    funext a
    refine Fin.ext ((Rect.idx_unit_val _ _ _ _ a).trans ?_)
    match a with
    | ⟨0, _⟩ => exact Nat.zero_add _
    | ⟨1, _⟩ => exact Nat.zero_add _
  refine (View.read_writes_cons_hit v f _ _ [] _ _ e).trans ?_
  pointwise [k0_pay3]

/-- What a grid point writes back at a row and a lane: the nine shifted products of the column array with the weight array's
    blocks, and the bias, times the window's last slab. -/
def rowOut (y : Vec Ideal S4768x256 .bf16) (x0 : Vec Ideal S1x1x4768x288 .f32) (x1 : Vec Ideal S256x2304 .bf16) (x2 : Vec Ideal S1x256 .f32)  (r : Fin 4624) (l : Fin 224) : EReal :=
  ((∑ b : Fin 3, ∑ d : Fin 3, ∑ k : Fin 256, y (ix2 ⟨3 + 68 * b.val + d.val + r.val, by omega⟩ k) * x1 (ix2 k ⟨256 * (3 * b.val + d.val) + l.val, by omega⟩))
      + x2 (ix2 0 ⟨l.val, by omega⟩))
    * x0 (ix4 0 0 ⟨72 + r.val, by omega⟩ ⟨32 + l.val, by omega⟩)

set_option maxHeartbeats 1000000 in
/-- A later grid point's one store into the output block: `rowOut` over the column array it has just left. -/
theorem outs_B (c : Dev nD) (i : grid0.Coords) (arg2 : Memref sig .tc .vmem S1x1x4768x288 .f32) (harg2 : arg2.IsWhole) (arg3 : Memref sig .tc .vmem S256x2304 .bf16) (harg3 : arg3.IsWhole) (arg4 : Memref sig .tc .vmem S1x256 .f32) (harg4 : arg4.IsWhole) (arg5 : Memref sig .tc .vmem S27x256 .f32) (harg5 : arg5.IsWhole) (arg6 : Memref sig .tc .vmem S1x1x4624x224 .f32) (harg6 : arg6.IsWhole) (arg7 : Memref sig .tc .vmem S4768x256 .f32) (harg7 : arg7.IsWhole) (arg8 : Memref sig .tc .vmem S4768x256 .f32) (harg8 : arg8.IsWhole) (arg9 : Memref sig .tc .vmem S4768x256 .f32) (harg9 : arg9.IsWhole) (arg10 : Memref sig .tc .vmem S4768x256 .bf16) (harg10 : arg10.IsWhole) (arg11 : Memref sig .tc .vmem S4768x256 .f32) (harg11 : arg11.IsWhole) (arg12 : Memref sig .tc .vmem S4768x256 .f32) (harg12 : arg12.IsWhole) (hc0 : ¬cond0_0 i)
    (x0 : Vec Ideal S1x1x4768x288 .f32) (x1 : Vec Ideal S256x2304 .bf16) (x2 : Vec Ideal S1x256 .f32) (x3 : Vec Ideal S27x256 .f32) (xs3 : Vec Ideal S4768x256 .bf16) :
   (kernelRun0_B c i arg2 harg2 arg3 harg3 arg4 harg4 arg5 harg5 arg6 harg6 arg7 harg7 arg8 harg8 arg9 harg9 arg10 harg10 arg11 harg11 arg12 harg12 hc0 x0 x1 x2 x3 xs3).1 = [⟨Rect.unit ![0, 0, 0, 0] S1x1x4624x224.size inb_S1x1x4624x224_S1x1x4624x224_0_0_0_0, fun j => rowOut (ycat xs3 x0 x3) x0 x1 x2 (j 2) (j 3)⟩] := by
  unfold kernelRun0_B
  dsimp only
  refine congrArg (fun w => [(⟨_, w⟩ : View.Piece (Elt Ideal) S1x1x4624x224 .f32)]) (funext fun j => ?_)
  idx_vars j
  obtain rfl : j0 = 0 := Subsingleton.elim _ _
  obtain rfl : j1 = 0 := Subsingleton.elim _ _
  unfold kernelRun0_B.sl.r_11 kernelRun0_B.sl.r_10
  rw [last_apply]
  unfold kernelRun0_B.sl.v304 kernelRun0_B.sl.v295 kernelRun0_B.sl.v286 kernelRun0_B.sl.v277 kernelRun0_B.sl.v268 kernelRun0_B.sl.v259 kernelRun0_B.sl.v250 kernelRun0_B.sl.v241 kernelRun0_B.sl.v233 kernelRun0_B.sl.v311
    kernelRun0_B.sl.HS4_5 kernelRun0_B.sl.HS4_4 kernelRun0_B.sl.HS4_3 kernelRun0_B.sl.HS4_2 kernelRun0_B.sl.HS4_1
    kernelRun0_B.sl.HS5_4 kernelRun0_B.sl.HS5_3 kernelRun0_B.sl.HS5_2 kernelRun0_B.sl.HS5_1 kernelRun0_B.sl.HS1_1 kernelRun0_B.sl.v297
  simp (disch := decide) only [View.readCov_fill]
  simp only [View.readAt_eq_ld, harg2.read_unread, harg3.read_unread, harg4.read_unread, ycat_B]
  generalize ycat xs3 x0 x3 = y
  pointwise [k0_pay1, k0_pay18, k0_pay19, k0_pay20, k0_pay21, k0_pay23, k0_pay24, k0_pay25, k0_pay26, k0_pay5, rowOut]
  congr 2
  simp only [Fin.sum_univ_three, Fin.isValue, Fin.val_zero, Fin.val_one, Fin.val_two, Nat.mul_zero, Nat.mul_one, Nat.add_zero,
    Nat.zero_add, Nat.reduceMul, Nat.reduceAdd]
  simp only [add_assoc (G := EReal)]
set_option maxHeartbeats 1000000 in
/-- The first grid point's one store into the output block: `rowOut` over the column array it has just left. -/
theorem outs_A (c : Dev nD) (i : grid0.Coords) (arg2 : Memref sig .tc .vmem S1x1x4768x288 .f32) (harg2 : arg2.IsWhole) (arg3 : Memref sig .tc .vmem S256x2304 .bf16) (harg3 : arg3.IsWhole) (arg4 : Memref sig .tc .vmem S1x256 .f32) (harg4 : arg4.IsWhole) (arg5 : Memref sig .tc .vmem S27x256 .f32) (harg5 : arg5.IsWhole) (arg6 : Memref sig .tc .vmem S1x1x4624x224 .f32) (harg6 : arg6.IsWhole) (arg7 : Memref sig .tc .vmem S4768x256 .f32) (harg7 : arg7.IsWhole) (arg8 : Memref sig .tc .vmem S4768x256 .f32) (harg8 : arg8.IsWhole) (arg9 : Memref sig .tc .vmem S4768x256 .f32) (harg9 : arg9.IsWhole) (arg10 : Memref sig .tc .vmem S4768x256 .bf16) (harg10 : arg10.IsWhole) (arg11 : Memref sig .tc .vmem S4768x256 .f32) (harg11 : arg11.IsWhole) (arg12 : Memref sig .tc .vmem S4768x256 .f32) (harg12 : arg12.IsWhole) (hc0 : cond0_0 i)
    (x0 : Vec Ideal S1x1x4768x288 .f32) (x1 : Vec Ideal S256x2304 .bf16) (x2 : Vec Ideal S1x256 .f32) (x3 : Vec Ideal S27x256 .f32) :
   (kernelRun0_A c i arg2 harg2 arg3 harg3 arg4 harg4 arg5 harg5 arg6 harg6 arg7 harg7 arg8 harg8 arg9 harg9 arg10 harg10 arg11 harg11 arg12 harg12 hc0 x0 x1 x2 x3).1 = [⟨Rect.unit ![0, 0, 0, 0] S1x1x4624x224.size inb_S1x1x4624x224_S1x1x4624x224_0_0_0_0, fun j => rowOut (ycat (fun _ => 0) x0 x3) x0 x1 x2 (j 2) (j 3)⟩] := by
  unfold kernelRun0_A
  dsimp only
  refine congrArg (fun w => [(⟨_, w⟩ : View.Piece (Elt Ideal) S1x1x4624x224 .f32)]) (funext fun j => ?_)
  idx_vars j
  obtain rfl : j0 = 0 := Subsingleton.elim _ _
  obtain rfl : j1 = 0 := Subsingleton.elim _ _
  unfold kernelRun0_A.sl.r_11 kernelRun0_A.sl.r_10
  rw [last_apply]
  unfold kernelRun0_A.sl.v304 kernelRun0_A.sl.v295 kernelRun0_A.sl.v286 kernelRun0_A.sl.v277 kernelRun0_A.sl.v268 kernelRun0_A.sl.v259 kernelRun0_A.sl.v250 kernelRun0_A.sl.v241 kernelRun0_A.sl.v233 kernelRun0_A.sl.v311
    kernelRun0_A.sl.HS4_5 kernelRun0_A.sl.HS4_4 kernelRun0_A.sl.HS4_3 kernelRun0_A.sl.HS4_2 kernelRun0_A.sl.HS4_1
    kernelRun0_A.sl.HS5_4 kernelRun0_A.sl.HS5_3 kernelRun0_A.sl.HS5_2 kernelRun0_A.sl.HS5_1 kernelRun0_A.sl.HS1_1 kernelRun0_A.sl.v297 kernelRun0_A.sl.v226
  simp (disch := decide) only [View.readCov_fill]
  unfold View.readCov
  simp only [View.readAt_eq_ld, harg2.read_unread, harg3.read_unread, harg4.read_unread, ycat_A]
  generalize ycat (fun _ => 0) x0 x3 = y
  pointwise [k0_pay1, k0_pay18, k0_pay19, k0_pay20, k0_pay21, k0_pay23, k0_pay24, k0_pay25, k0_pay26, k0_pay5, rowOut]
  congr 2
  simp only [Fin.sum_univ_three, Fin.isValue, Fin.val_zero, Fin.val_one, Fin.val_two, Nat.mul_zero, Nat.mul_one, Nat.add_zero,
    Nat.zero_add, Nat.reduceMul, Nat.reduceAdd]
  simp only [add_assoc (G := EReal)]

/-- The output block the first grid point leaves. -/
theorem out_A (c : Dev nD) (i : grid0.Coords) (arg2 : Memref sig .tc .vmem S1x1x4768x288 .f32) (harg2 : arg2.IsWhole) (arg3 : Memref sig .tc .vmem S256x2304 .bf16) (harg3 : arg3.IsWhole) (arg4 : Memref sig .tc .vmem S1x256 .f32) (harg4 : arg4.IsWhole) (arg5 : Memref sig .tc .vmem S27x256 .f32) (harg5 : arg5.IsWhole) (arg6 : Memref sig .tc .vmem S1x1x4624x224 .f32) (harg6 : arg6.IsWhole) (arg7 : Memref sig .tc .vmem S4768x256 .f32) (harg7 : arg7.IsWhole) (arg8 : Memref sig .tc .vmem S4768x256 .f32) (harg8 : arg8.IsWhole) (arg9 : Memref sig .tc .vmem S4768x256 .f32) (harg9 : arg9.IsWhole) (arg10 : Memref sig .tc .vmem S4768x256 .bf16) (harg10 : arg10.IsWhole) (arg11 : Memref sig .tc .vmem S4768x256 .f32) (harg11 : arg11.IsWhole) (arg12 : Memref sig .tc .vmem S4768x256 .f32) (harg12 : arg12.IsWhole) (hc0 : cond0_0 i) (x0 : Vec Ideal S1x1x4768x288 .f32) (x1 : Vec Ideal S256x2304 .bf16) (x2 : Vec Ideal S1x256 .f32) (x3 : Vec Ideal S27x256 .f32) :
    out0_A_4 c i arg2 harg2 arg3 harg3 arg4 harg4 arg5 harg5 arg6 harg6 arg7 harg7 arg8 harg8 arg9 harg9 arg10 harg10 arg11 harg11 arg12 harg12 hc0 x0 x1 x2 x3 = fun j => rowOut (ycat (fun _ => 0) x0 x3) x0 x1 x2 (j 2) (j 3) := by
  unfold out0_A_4
  rw [outs_A, View.read_writes_junk_eq_canon, View.canon_cons_unit_lit _ _ _ (by decide)]
  rfl

/-- The output block a later grid point leaves. -/
theorem out_B (c : Dev nD) (i : grid0.Coords) (arg2 : Memref sig .tc .vmem S1x1x4768x288 .f32) (harg2 : arg2.IsWhole) (arg3 : Memref sig .tc .vmem S256x2304 .bf16) (harg3 : arg3.IsWhole) (arg4 : Memref sig .tc .vmem S1x256 .f32) (harg4 : arg4.IsWhole) (arg5 : Memref sig .tc .vmem S27x256 .f32) (harg5 : arg5.IsWhole) (arg6 : Memref sig .tc .vmem S1x1x4624x224 .f32) (harg6 : arg6.IsWhole) (arg7 : Memref sig .tc .vmem S4768x256 .f32) (harg7 : arg7.IsWhole) (arg8 : Memref sig .tc .vmem S4768x256 .f32) (harg8 : arg8.IsWhole) (arg9 : Memref sig .tc .vmem S4768x256 .f32) (harg9 : arg9.IsWhole) (arg10 : Memref sig .tc .vmem S4768x256 .bf16) (harg10 : arg10.IsWhole) (arg11 : Memref sig .tc .vmem S4768x256 .f32) (harg11 : arg11.IsWhole) (arg12 : Memref sig .tc .vmem S4768x256 .f32) (harg12 : arg12.IsWhole) (hc0 : ¬cond0_0 i) (x0 : Vec Ideal S1x1x4768x288 .f32) (x1 : Vec Ideal S256x2304 .bf16) (x2 : Vec Ideal S1x256 .f32) (x3 : Vec Ideal S27x256 .f32) (xs3 : Vec Ideal S4768x256 .bf16) :
    out0_B_4 c i arg2 harg2 arg3 harg3 arg4 harg4 arg5 harg5 arg6 harg6 arg7 harg7 arg8 harg8 arg9 harg9 arg10 harg10 arg11 harg11 arg12 harg12 hc0 x0 x1 x2 x3 xs3 = fun j => rowOut (ycat xs3 x0 x3) x0 x1 x2 (j 2) (j 3) := by
  unfold out0_B_4
  rw [outs_B, View.read_writes_junk_eq_canon, View.canon_cons_unit_lit _ _ _ (by decide)]
  rfl

/-- The column array the first grid point leaves. -/
theorem sout_A (c : Dev nD) (i : grid0.Coords) (arg2 : Memref sig .tc .vmem S1x1x4768x288 .f32) (harg2 : arg2.IsWhole) (arg3 : Memref sig .tc .vmem S256x2304 .bf16) (harg3 : arg3.IsWhole) (arg4 : Memref sig .tc .vmem S1x256 .f32) (harg4 : arg4.IsWhole) (arg5 : Memref sig .tc .vmem S27x256 .f32) (harg5 : arg5.IsWhole) (arg6 : Memref sig .tc .vmem S1x1x4624x224 .f32) (harg6 : arg6.IsWhole) (arg7 : Memref sig .tc .vmem S4768x256 .f32) (harg7 : arg7.IsWhole) (arg8 : Memref sig .tc .vmem S4768x256 .f32) (harg8 : arg8.IsWhole) (arg9 : Memref sig .tc .vmem S4768x256 .f32) (harg9 : arg9.IsWhole) (arg10 : Memref sig .tc .vmem S4768x256 .bf16) (harg10 : arg10.IsWhole) (arg11 : Memref sig .tc .vmem S4768x256 .f32) (harg11 : arg11.IsWhole) (arg12 : Memref sig .tc .vmem S4768x256 .f32) (harg12 : arg12.IsWhole) (hc0 : cond0_0 i) (x0 : Vec Ideal S1x1x4768x288 .f32) (x1 : Vec Ideal S256x2304 .bf16) (x2 : Vec Ideal S1x256 .f32) (x3 : Vec Ideal S27x256 .f32) :
    sout0_A_3 c i arg2 harg2 arg3 harg3 arg4 harg4 arg5 harg5 arg6 harg6 arg7 harg7 arg8 harg8 arg9 harg9 arg10 harg10 arg11 harg11 arg12 harg12 hc0 x0 x1 x2 x3 = ycat (fun _ => 0) x0 x3 := by
  unfold sout0_A_3 kernelRun0_A
  exact ycat_A c arg2 harg2 arg5 harg5 arg7 arg8 arg9 _ _ x0 x3

/-- The column array a later grid point leaves. -/
theorem sout_B (c : Dev nD) (i : grid0.Coords) (arg2 : Memref sig .tc .vmem S1x1x4768x288 .f32) (harg2 : arg2.IsWhole) (arg3 : Memref sig .tc .vmem S256x2304 .bf16) (harg3 : arg3.IsWhole) (arg4 : Memref sig .tc .vmem S1x256 .f32) (harg4 : arg4.IsWhole) (arg5 : Memref sig .tc .vmem S27x256 .f32) (harg5 : arg5.IsWhole) (arg6 : Memref sig .tc .vmem S1x1x4624x224 .f32) (harg6 : arg6.IsWhole) (arg7 : Memref sig .tc .vmem S4768x256 .f32) (harg7 : arg7.IsWhole) (arg8 : Memref sig .tc .vmem S4768x256 .f32) (harg8 : arg8.IsWhole) (arg9 : Memref sig .tc .vmem S4768x256 .f32) (harg9 : arg9.IsWhole) (arg10 : Memref sig .tc .vmem S4768x256 .bf16) (harg10 : arg10.IsWhole) (arg11 : Memref sig .tc .vmem S4768x256 .f32) (harg11 : arg11.IsWhole) (arg12 : Memref sig .tc .vmem S4768x256 .f32) (harg12 : arg12.IsWhole) (hc0 : ¬cond0_0 i) (x0 : Vec Ideal S1x1x4768x288 .f32) (x1 : Vec Ideal S256x2304 .bf16) (x2 : Vec Ideal S1x256 .f32) (x3 : Vec Ideal S27x256 .f32) (xs3 : Vec Ideal S4768x256 .bf16) :
    sout0_B_3 c i arg2 harg2 arg3 harg3 arg4 harg4 arg5 harg5 arg6 harg6 arg7 harg7 arg8 harg8 arg9 harg9 arg10 harg10 arg11 harg11 arg12 harg12 hc0 x0 x1 x2 x3 xs3 = ycat xs3 x0 x3 := by
  unfold sout0_B_3 kernelRun0_B
  exact ycat_B c arg2 harg2 arg5 harg5 arg7 arg8 arg9 _ _ x0 x3 xs3

end Cert.Proof.Body
end
-- ==== Proof.Array.lean ====
module

public import proofs.«01_k».proof.Proof.Body

@[expose] public section

set_option maxRecDepth 16384
noncomputable section
namespace Cert.Proof.Array
open Cert.KernelIdeal Cert.KernelIdeal.Gen Idealize.ShloMosaic Idealize.ShloMosaic.TcCoe Idealize.SL.Sem Cert.Proof.Body
open Idealize.ShloMosaic.Pipeline (Dat Cfg Window)

variable (m : (ℓ : Loc nD τ sig) → Buf (Elt Ideal) ℓ)

/-- A second grid point's stores over a first one's column array leave what they would leave over zero: both write the same rows. -/
theorem ycat_ycat (z : Vec Ideal S4768x256 .bf16) (x0 x0' : Vec Ideal S1x1x4768x288 .f32) (x3 x3' : Vec Ideal S27x256 .f32) :
    ycat (ycat z x0 x3) x0' x3' = ycat z x0' x3' := by
  funext j
  unfold ycat
  by_cases h : 72 ≤ (j 0).val ∧ (j 0).val < 4696
  · rw [dif_pos h, dif_pos h]
  · rw [dif_neg h, dif_neg h, dif_neg h]

/-- The first grid point's column array and output block. -/
theorem at_first (c : Dev nD) (t : Fin cfg0.N) (h : t.val % 10 = 0) :
    outsAt0 m c t.val t.isLt = ((fun j => rowOut (ycat (fun _ => 0) (iblk m c 0 t) (iblk m c 3 t)) (iblk m c 0 t) (iblk m c 1 t) (iblk m c 2 t) (j 2) (j 3) : Vec Ideal S1x1x4624x224 .f32),
      ycat (fun _ => 0) (iblk m c 0 t) (iblk m c 3 t)) :=
  (outsAt0_A m c t h).trans (congrArg₂ Prod.mk (out_A ..) (sout_A ..))

/-- A later grid point's, over the column array the point before it left. -/
theorem at_later (c : Dev nD) (t : Fin cfg0.N) (h : ¬ t.val % 10 = 0) (z : Vec Ideal S4768x256 .bf16)
    (hz : (outsAt0 m c (t.val - 1) (Nat.lt_of_le_of_lt (Nat.sub_le _ _) t.isLt)).2 = z) :
    outsAt0 m c t.val t.isLt = ((fun j => rowOut (ycat z (iblk m c 0 t) (iblk m c 3 t)) (iblk m c 0 t) (iblk m c 1 t) (iblk m c 2 t) (j 2) (j 3) : Vec Ideal S1x1x4624x224 .f32),
      ycat z (iblk m c 0 t) (iblk m c 3 t)) := by
  subst hz
  exact (outsAt0_B m c t h).trans (congrArg₂ Prod.mk (out_B ..) (sout_B ..))

/-- Each grid point leaves the column array of its own window over zero, whatever the points before it left. -/
theorem carried (c : Dev nD) (n : ℕ) : ∀ (hn : n < cfg0.N),
    (outsAt0 m c n hn).2 = ycat (fun _ => 0) (iblk m c 0 ⟨n, hn⟩) (iblk m c 3 ⟨n, hn⟩) := by
  have hN : cfg0.N = 10 := N_0
  induction n with
  | zero => exact fun hn => congrArg Prod.snd (at_first m c ⟨0, hn⟩ (Nat.zero_mod _))
  | succ n ih =>
    intro hn
    have h : ¬ (⟨n + 1, hn⟩ : Fin cfg0.N).val % 10 = 0 := by show ¬ (n + 1) % 10 = 0; omega
    exact (congrArg Prod.snd (at_later m c ⟨n + 1, hn⟩ h _ (ih (Nat.lt_of_succ_lt hn)))).trans (ycat_ycat ..)

/-- What each grid point leaves in its output block. -/
theorem block_out (c : Dev nD) (t : Fin cfg0.N) :
    (outsAt0 m c t.val t.isLt).1 = fun j => rowOut (ycat (fun _ => 0) (iblk m c 0 t) (iblk m c 3 t)) (iblk m c 0 t) (iblk m c 1 t) (iblk m c 2 t) (j 2) (j 3) := by
  by_cases h : t.val % 10 = 0
  · exact congrArg Prod.fst (at_first m c t h)
  · have e := congrArg Prod.fst (at_later m c t h _ (carried m c _ _))
    rw [ycat_ycat] at e
    exact e

/-- One window of the occupancy array: the block of batch `b` and depth step `s`. -/
def owin (O : Vec Ideal S2x5x4768x288 .f32) (b : Fin 2) (s : Fin 5) : Vec Ideal S1x1x4768x288 .f32 := fun y => O (ix4 b s (y 2) (y 3))

/-- The kernel's output array as a function of its four operands. -/
def arrOut (O : Vec Ideal S2x5x4768x288 .f32) (B : Vec Ideal S256x2304 .bf16) (f : Vec Ideal S1x256 .f32) (w : Vec Ideal S27x256 .f32) :
    Vec Ideal S2x5x4624x224 .f32 :=
  fun j => rowOut (ycat (fun _ => 0) (owin O (j 0) (j 1)) w) (owin O (j 0) (j 1)) B f (j 2) (j 3)

/-- The block index of every window at a grid point: the first operand and the result move with the point, the others stay. -/
theorem idx_all : ∀ t : Fin cfg0.N, (cfg0.win 0).index t = ![(grid0.coords t 0).val, (grid0.coords t 1).val, 0, 0] ∧ (cfg0.win 1).index t = ![0, 0]
    ∧ (cfg0.win 2).index t = ![0, 0] ∧ (cfg0.win 3).index t = ![0, 0] ∧ (cfg0.win 4).index t = ![(grid0.coords t 0).val, (grid0.coords t 1).val, 0, 0] := by
  decide +kernel

/-- The first operand's block at a grid point is the point's padded stack of planes. -/
theorem read_win (t : Fin cfg0.N) (A : Vec Ideal S2x5x4768x288 .f32) :
    ((cfg0.win 0).blk t).view.read (Elt Ideal) A = owin A (grid0.coords t 0) (grid0.coords t 1) := by
  obtain ⟨i0, -⟩ := idx_all t
  funext y
  unfold owin
  blk_ext [i0]

/-- The weight operand's block is the whole array at every point. -/
theorem read_one (t : Fin cfg0.N) (A : Vec Ideal S256x2304 .bf16) : ((cfg0.win 1).blk t).view.read (Elt Ideal) A = A := by
  obtain ⟨-, i1, -⟩ := idx_all t
  funext y
  blk_ext [i1]

/-- The bias operand's block is the whole array at every point. -/
theorem read_two (t : Fin cfg0.N) (A : Vec Ideal S1x256 .f32) : ((cfg0.win 2).blk t).view.read (Elt Ideal) A = A := by
  obtain ⟨-, -, i2, -⟩ := idx_all t
  funext y
  blk_ext [i2]

/-- The tap weights' block is the whole array at every point. -/
theorem read_three (t : Fin cfg0.N) (A : Vec Ideal S27x256 .f32) : ((cfg0.win 3).blk t).view.read (Elt Ideal) A = A := by
  obtain ⟨-, -, -, i3, -⟩ := idx_all t
  funext y
  blk_ext [i3]

/-- Where an element of the result block lies in the result array. -/
theorem place_out (t : Fin cfg0.N) (y : S1x1x4624x224.Idx) :
    ((cfg0.win 4).blk t).view.emb y = ix4 (grid0.coords t 0) (grid0.coords t 1) (y 2) (y 3) := by
  obtain ⟨-, -, -, -, i4⟩ := idx_all t
  have h0 := (y 0).isLt
  have h1 := (y 1).isLt
  blk_ext [i4]

/-- The first operand's block in the run, at a point. -/
theorem iblk_win (c : Dev nD) (t : Fin cfg0.N) : iblk m c 0 t = owin (V m c main_v23) (grid0.coords t 0) (grid0.coords t 1) :=
  read_win t (V m c main_v23)

/-- The weight operand's block in the run, at a point. -/
theorem iblk_one (c : Dev nD) (t : Fin cfg0.N) : iblk m c 1 t = V m c main_v60 := read_one t (V m c main_v60)

/-- The bias operand's block in the run, at a point. -/
theorem iblk_two (c : Dev nD) (t : Fin cfg0.N) : iblk m c 2 t = V m c main_v65 := read_two t (V m c main_v65)

/-- The tap weights' block in the run, at a point. -/
theorem iblk_three (c : Dev nD) (t : Fin cfg0.N) : iblk m c 3 t = V m c main_v69 := read_three t (V m c main_v69)

/-- The output window's block at a point is the block of the output array there. -/
theorem arrOut_place (O : Vec Ideal S2x5x4768x288 .f32) (B : Vec Ideal S256x2304 .bf16) (f : Vec Ideal S1x256 .f32) (w : Vec Ideal S27x256 .f32)
    (t : Fin cfg0.N) (y : S1x1x4624x224.Idx) :
    rowOut (ycat (fun _ => 0) (owin O (grid0.coords t 0) (grid0.coords t 1)) w) (owin O (grid0.coords t 0) (grid0.coords t 1)) B f (y 2) (y 3)
      = arrOut O B f w (((cfg0.win 4).blk t).view.emb y) := by
  rw [place_out]
  rfl

/-- What a grid point leaves in its output block, read off the four operand arrays. -/
theorem point_out (c : Dev nD) (t : Fin cfg0.N) (y : S1x1x4624x224.Idx) :
    (outsAt0 m c t.val t.isLt).1 y = arrOut (V m c main_v23) (V m c main_v60) (V m c main_v65) (V m c main_v69) (((cfg0.win 4).blk t).view.emb y) := by
  rw [block_out, iblk_win, iblk_one, iblk_two, iblk_three]
  exact arrOut_place ..

/-- The kernel's result array after the last point, as a function of its four operands. -/
theorem final (c : Dev nD) : (dats m 0 c).arrAt 4 cfg0.N
    = arrOut (V m c main_v23) (V m c main_v60) (V m c main_v65) (V m c main_v69) := by
  refine (dats m 0 c).arrAt_eq_of_covers 4 _ (by decide +kernel) fun t hf y => ?_
  rw [after0_4]
  exact point_out m c t y

end Cert.Proof.Array
end
-- ==== Proof.Result.lean ====
module

public import proofs.«01_k».proof.Proof.Array
public import Idealize.ShloMosaic.Lib.StableHlo.ReadAt
public import Idealize.ShloMosaic.Lib.Pointwise

@[expose] public section

set_option maxRecDepth 16384
noncomputable section
namespace Cert.Proof.Result
open Cert.KernelIdeal Cert.KernelIdeal.Gen Idealize.ShloMosaic Idealize.ShloMosaic.TcCoe Idealize.SL.Sem Cert.Proof.Body Cert.Proof.Array

/-- The lines after the kernel pick the voxels out of the padded planes: an output row read off the kernel's array. -/
theorem tail_at (W : Valuation τ sig (Elt Ideal)) (i : Fin 524288) (o : Fin 10) (A : Vec Ideal S2x5x4624x224 .f32)
    (hA : W (Proc.devRef .tc main_v70) = A) (T : Vec Ideal S524288x10 .f32)
    (hT : T = StableHlo.after (List.flatten [hostOps1]) W (Proc.devRef .tc main_v77)) :
    T (ix2 i o) = A (ix4 ⟨i.val / 262144, by omega⟩ ⟨i.val / 4096 % 64 / 14, by omega⟩
      ⟨68 * (i.val / 64 % 64 + 2) + (i.val % 64 + 2), by omega⟩ ⟨16 * (i.val / 4096 % 64 % 14) + o.val, by omega⟩) := by
  subst hT hA
  after_reads_at
  have h1 : (⟨(2 + i.val / 64 % 64) * 68 + (2 + i.val % 64), by omega⟩ : Fin 4624) = ⟨68 * (i.val / 64 % 64 + 2) + (i.val % 64 + 2), by omega⟩ :=
    Fin.ext (by simp only; omega)
  have h2 : (⟨i.val / 4096 % 64 % 14 * 16 + o.val, by omega⟩ : Fin 224) = ⟨16 * (i.val / 4096 % 64 % 14) + o.val, by omega⟩ :=
    Fin.ext (by simp only; omega)
  exact congrArg₂ (fun R l => (show Vec Ideal S2x5x4624x224 .f32 from W (Proc.devRef .tc main_v70)) (ix4 _ _ R l)) h1 h2

variable (m : (ℓ : Loc nD τ sig) → Buf (Elt Ideal) ℓ)

/-- What the run leaves in the result buffer, row by row, read off the kernel's output array. -/
theorem result_at (c : Dev nD) (i : Fin 524288) (o : Fin 10) (T : Vec Ideal S524288x10 .f32)
    (hT : T = Pipeline.afterTail₀ cfgs (dats m) 0 (V0 m) [hostOps1] c main_v77) :
    T (ix2 i o) = arrOut (V m c main_v23) (V m c main_v60) (V m c main_v65) (V m c main_v69)
      (ix4 ⟨i.val / 262144, by omega⟩ ⟨i.val / 4096 % 64 / 14, by omega⟩
        ⟨68 * (i.val / 64 % 64 + 2) + (i.val % 64 + 2), by omega⟩ ⟨16 * (i.val / 4096 % 64 % 14) + o.val, by omega⟩) := by
  unfold Pipeline.afterTail₀ at hT
  exact tail_at _ i o _ ((Pipeline.withArrays_arr spec0 (by decide) c (V0 m c) _ 4).trans (final m c)) T hT

/-- The run of the kernel: the result buffer at what the lines after the kernel leave in it, the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v77) = Pipeline.afterTail₀ cfgs (dats m) 0 (V0 m) [hostOps1] c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).2 main_v77 (Pipeline.mem_restRefs_of main_v77 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Proof.Result
end
-- ==== Proof.Prefix.lean ====
module

public import proofs.«01_k».proof.Proof.Gen.KernelIdeal.Frame
public import Idealize.ShloMosaic.Lib.Pipeline.Value
public import Idealize.ShloMosaic.Lib.Pipeline.ValueKit
public import Idealize.ShloMosaic.Lib.Pointwise
public import Idealize.ShloMosaic.Lib.StableHlo.ReadAt
public import proofs.«01_k».proof.Proof.Spec

@[expose] public section

set_option maxRecDepth 16384
noncomputable section
namespace Cert.Proof.Prefix
open Cert.KernelIdeal Cert.KernelIdeal.Gen Idealize.ShloMosaic Idealize.ShloMosaic.TcCoe Idealize.SL.Sem Cert.Proof.Spec

variable (m : (ℓ : Loc nD τ sig) → Buf (Elt Ideal) ℓ)

/-- The tap weights handed to the kernel: the first convolution's weights, repeated along the lanes. -/
theorem w1_at (c : Dev nD) (tap : Fin 27) (l : Fin 256) (A : Vec Ideal S27x256 .f32) (hA : A = V m c main_v69) :
    A (ix2 tap l) = w1Of (m ((c.tc : Thread nD τ).loc main_arg1)) ⟨tap.val / 9, by omega⟩ ⟨tap.val / 3 % 3, by omega⟩ ⟨tap.val % 3, by omega⟩ ⟨l.val % 16, by omega⟩ := by
  subst hA
  unfold V V0
  after_reads_at
  rfl

/-- The bias handed to the kernel: ten entries in each group of sixteen lanes, zero in the other six. -/
theorem fb_at (c : Dev nD) (l : Fin 256) (A : Vec Ideal S1x256 .f32) (hA : A = V m c main_v65) :
    A (ix2 0 l) = if h : l.val % 16 < 10 then fbOf (m ((c.tc : Thread nD τ).loc main_arg4)) ⟨l.val % 16, h⟩ else 0 := by
  subst hA
  unfold V V0
  after_reads_at
  simp [fbOf, FloatOps.sitofp]

/-- The gather at an index: block `s`'s plane `j` is the plane the start index names, clamped into the array. -/
theorem gather_at {α : Type} (x : S2x74x4768.Idx → α) (idx : IVec S5x18x1 32) (b : Fin 2) (s : Fin 5) (j : Fin 18) (R : Fin 4768) :
    Host.gather gather_S2x74x4768_S5x18x1_S2x5x18x4768_03_1_n_n_1_2_214768 x idx (ix4 b s j R)
      = x (ix3 b ⟨min (idx (ix3 s j 0)).toInt.toNat 73, by omega⟩ R) := by
  unfold Host.gather
  congr 1
  funext a
  apply Fin.ext
  have hb : ∀ a : Fin 3, gather_S2x74x4768_S5x18x1_S2x5x18x4768_03_1_n_n_1_2_214768.batchCoord (ix4 b s j R) a = 0 := fun a =>
    GatherDims.batchCoord_eq_zero _ _ _ List.not_mem_nil
  match a with
  | ⟨0, _⟩ =>
    show GatherDims.start _ _ _ _ + GatherDims.batchCoord _ _ _ + GatherDims.offCoord _ _ _ = _
    rw [hb]
    unfold GatherDims.start GatherDims.offCoord
    rw [dif_neg (by decide +revert), dif_pos (by decide +revert)]
    exact Nat.zero_add _
  | ⟨1, _⟩ =>
    show GatherDims.start _ _ _ _ + GatherDims.batchCoord _ _ _ + GatherDims.offCoord _ _ _ = _
    rw [hb]
    unfold GatherDims.start GatherDims.offCoord
    rw [dif_pos (by decide +revert), dif_neg (by decide +revert)]
    show min (idx (GatherDims.siIdx _ _ _)).toInt.toNat 73 = min (idx (ix3 s j 0)).toInt.toNat 73
    congr 4
    funext e
    match e with
    | ⟨0, _⟩ => rfl
    | ⟨1, _⟩ => rfl
    | ⟨2, _⟩ => rfl
  | ⟨2, _⟩ =>
    show GatherDims.start _ _ _ _ + GatherDims.batchCoord _ _ _ + GatherDims.offCoord _ _ _ = _
    rw [hb]
    unfold GatherDims.start GatherDims.offCoord
    rw [dif_neg (by decide +revert), dif_pos (by decide +revert)]
    exact Nat.zero_add _

/-- Fourteen arrays stacked along the fourth axis. -/
def cat14 (x0 x1 x2 x3 x4 x5 x6 x7 x8 x9 x10 x11 x12 x13 : FVec Ideal S16x16x9x1x16 .f32) : FVec Ideal S16x16x9x14x16 .f32 :=
  concatenate S16x16x9x14x16 3 [⟨S16x16x9x1x16, x0⟩, ⟨S16x16x9x1x16, x1⟩, ⟨S16x16x9x1x16, x2⟩, ⟨S16x16x9x1x16, x3⟩, ⟨S16x16x9x1x16, x4⟩, ⟨S16x16x9x1x16, x5⟩, ⟨S16x16x9x1x16, x6⟩, ⟨S16x16x9x1x16, x7⟩, ⟨S16x16x9x1x16, x8⟩, ⟨S16x16x9x1x16, x9⟩, ⟨S16x16x9x1x16, x10⟩, ⟨S16x16x9x1x16, x11⟩, ⟨S16x16x9x1x16, x12⟩, ⟨S16x16x9x1x16, x13⟩]
    concatenates_S16x16x9x1x16_S16x16x9x1x16_S16x16x9x1x16_S16x16x9x1x16_S16x16x9x1x16_S16x16x9x1x16_S16x16x9x1x16_S16x16x9x1x16_S16x16x9x1x16_S16x16x9x1x16_S16x16x9x1x16_S16x16x9x1x16_S16x16x9x1x16_S16x16x9x1x16_S16x16x9x14x16_d3

/-- Stacks of equal arrays are equal. -/
theorem cat14_congr {x0 x1 x2 x3 x4 x5 x6 x7 x8 x9 x10 x11 x12 x13 y0 y1 y2 y3 y4 y5 y6 y7 y8 y9 y10 y11 y12 y13 : FVec Ideal S16x16x9x1x16 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    cat14 x0 x1 x2 x3 x4 x5 x6 x7 x8 x9 x10 x11 x12 x13 = cat14 y0 y1 y2 y3 y4 y5 y6 y7 y8 y9 y10 y11 y12 y13 := by
  subst h0 h1 h2 h3 h4 h5 h6 h7 h8 h9 h10 h11 h12 h13
  rfl

/-- The stack at an index: the piece the fourth coordinate names. -/
theorem cat14_at (p : Fin 14 → FVec Ideal S16x16x9x1x16 .f32) (j k : Fin 16) (g : Fin 9) (q : Fin 14) (o : Fin 16) :
    cat14 (p 0) (p 1) (p 2) (p 3) (p 4) (p 5) (p 6) (p 7) (p 8) (p 9) (p 10) (p 11) (p 12) (p 13) (ix5 j k g q o) = p q (ix5 j k g 0 o) := by
  unfold cat14
  refine concatenate_ofFn_unit_apply (t := S16x16x9x14x16) (s₁ := S16x16x9x1x16) 3 p _ rfl rfl (ix5 j k g q o) q rfl (ix5 j k g 0 o) ?_
  intro b hb
  match b with
  | ⟨0, _⟩ => rfl
  | ⟨1, _⟩ => rfl
  | ⟨2, _⟩ => rfl
  | ⟨3, _⟩ => exact absurd rfl hb
  | ⟨4, _⟩ => rfl

/-- The stacked weights with two blank planes behind, laid out as a matrix. -/
def laid (x : FVec Ideal S16x16x9x14x16 .f32) : FVec Ideal S256x2304 .bf16 :=
  truncf (F := Ideal) .bf16 (shapeCast S256x2304 (pad S16x16x9x16x16 ![0, 0, 0, 0, 0] ![0, 0, 0, 2, 0] ![0, 0, 0, 0, 0]
    x (sitofp (F := Ideal) .f32 (constantI S_ 32 0#32)) pads_S16x16x9x14x16_S16x16x9x16x16_000_000_000_020_000 h_S_)
    shapeCasts_S16x16x9x16x16_S256x2304) bitsLt_bf16_f32

/-- The stack at an index, its pieces given one by one. -/
theorem cat14_vec (x0 x1 x2 x3 x4 x5 x6 x7 x8 x9 x10 x11 x12 x13 : FVec Ideal S16x16x9x1x16 .f32) (j k : Fin 16) (g : Fin 9) (q : Fin 14) (o : Fin 16) :
    cat14 x0 x1 x2 x3 x4 x5 x6 x7 x8 x9 x10 x11 x12 x13 (ix5 j k g q o) = (![x0, x1, x2, x3, x4, x5, x6, x7, x8, x9, x10, x11, x12, x13] : Fin 14 → FVec Ideal S16x16x9x1x16 .f32) q (ix5 j k g 0 o) :=
  cat14_at ![x0, x1, x2, x3, x4, x5, x6, x7, x8, x9, x10, x11, x12, x13] j k g q o

/-- What holds of each of fourteen entries holds of the list of them. -/
theorem vec14 {α : Type} (P : Fin 14 → α → Prop) (x0 x1 x2 x3 x4 x5 x6 x7 x8 x9 x10 x11 x12 x13 : α)
    (h0 : P 0 x0) (h1 : P 1 x1) (h2 : P 2 x2) (h3 : P 3 x3) (h4 : P 4 x4) (h5 : P 5 x5) (h6 : P 6 x6) (h7 : P 7 x7) (h8 : P 8 x8) (h9 : P 9 x9) (h10 : P 10 x10) (h11 : P 11 x11) (h12 : P 12 x12) (h13 : P 13 x13) : ∀ q, P q ((![x0, x1, x2, x3, x4, x5, x6, x7, x8, x9, x10, x11, x12, x13] : Fin 14 → α) q) := by
  intro q
  fin_cases q
  all_goals assumption

/-- The fourteen copies of the folded weights that the matrix stacks. -/
abbrev piece (c : Dev nD) : Fin 14 → FVec Ideal S16x16x9x1x16 .f32 :=
  ![V m c main_v43, V m c main_v44, V m c main_v45, V m c main_v46, V m c main_v47, V m c main_v48, V m c main_v49, V m c main_v50, V m c main_v51, V m c main_v52, V m c main_v53, V m c main_v54, V m c main_v55, V m c main_v56]

/-- The matrix at an index whose column belongs to one of the fourteen planes. -/
theorem laid_at (X : FVec Ideal S16x16x9x14x16 .f32) (l : Fin 256) (n : Fin 2304) (hn : n.val / 16 % 16 < 14) :
    laid X (ix2 l n) = X (ix5 ⟨l.val / 16, by omega⟩ ⟨l.val % 16, by omega⟩ ⟨n.val / 256, by omega⟩ ⟨n.val / 16 % 16, hn⟩ ⟨n.val % 16, by omega⟩) := by
  unfold laid
  pointwise
  rw [dif_pos (by omega)]

set_option maxHeartbeats 400000 in
/-- The second operand is the stack of the fourteen copies, laid out as a matrix. -/
theorem wt_eq (c : Dev nD) (A : FVec Ideal S256x2304 .bf16) (hA : A = V m c main_v60) :
    A = laid (cat14 (V m c main_v43) (V m c main_v44) (V m c main_v45) (V m c main_v46) (V m c main_v47) (V m c main_v48) (V m c main_v49) (V m c main_v50) (V m c main_v51) (V m c main_v52) (V m c main_v53) (V m c main_v54) (V m c main_v55) (V m c main_v56)) := by
  subst hA
  refine Eq.trans (b := ?X) ?_ ?_
  case refine_1 =>
    unfold V V0
    after_reads_simp [Matrix.cons_val]
    simp -implicitDefEqProofs only [StableHlo.TRef.toBuf, StableHlo.TRef.ofBuf, cast_cast, cast_eq]
    clean_types
    exact rfl
  refine congrArg laid (cat14_congr ?_ ?_ ?_ ?_ ?_ ?_ ?_ ?_ ?_ ?_ ?_ ?_ ?_ ?_)
  all_goals unfold V V0
  all_goals after_reads_simp

/-- The weights of the second convolution contracted with the classifier. -/
def folded (w2 : Wt2) (fc : Fin 10 → Fin 32 → EReal) (a : Fin 3) (k : Fin 16) (g : Fin 9) (o : Fin 10) : EReal :=
  ∑ h : Fin 32, w2 a ⟨g.val / 3, by omega⟩ ⟨g.val % 3, by omega⟩ k h * fc o h

/-- The contraction read off the weight arrays through the row number of the flattened weights. -/
theorem folded_sum (x2 : (⟨5, ![3, 3, 3, 16, 32]⟩ : Shape).Idx → EReal) (x3 : (⟨2, ![10, 32]⟩ : Shape).Idx → EReal)
    (a : ℕ) (ha : a < 3) (k : Fin 16) (g : Fin 9) (o : Fin 10) :
    (∑ x : Fin 32, x2 (ix5 ⟨(a * 144 + g.val * 16 + k.val) / 144, by omega⟩ ⟨(a * 144 + g.val * 16 + k.val) / 48 % 3, by omega⟩
        ⟨(a * 144 + g.val * 16 + k.val) / 16 % 3, by omega⟩ ⟨(a * 144 + g.val * 16 + k.val) % 16, by omega⟩ x) * x3 (ix2 o x))
      = folded (w2Of x2) (fcOf x3) ⟨a, ha⟩ k g o := by
  unfold folded w2Of fcOf
  refine Finset.sum_congr rfl fun x _ => ?_
  have h1 : (⟨(a * 144 + g.val * 16 + k.val) / 144, by omega⟩ : Fin 3) = ⟨a, ha⟩ := Fin.ext (by simp only; omega)
  have h2 : (⟨(a * 144 + g.val * 16 + k.val) / 48 % 3, by omega⟩ : Fin 3) = ⟨g.val / 3, by omega⟩ := Fin.ext (by simp only; omega)
  have h3 : (⟨(a * 144 + g.val * 16 + k.val) / 16 % 3, by omega⟩ : Fin 3) = ⟨g.val % 3, by omega⟩ := Fin.ext (by simp only; omega)
  have h4 : (⟨(a * 144 + g.val * 16 + k.val) % 16, by omega⟩ : Fin 16) = k := Fin.ext (by simp only; omega)
  rw [h1, h2, h3, h4]

set_option maxHeartbeats 2000000 in
/-- Copy `q` at an index: the folded weights moved down by `q` planes, zero elsewhere. -/
theorem piece_at (c : Dev nD) (q : Fin 14) (j k : Fin 16) (g : Fin 9) (o : Fin 16) :
    piece m c q (ix5 j k g 0 o) =
      if h : (q.val ≤ j.val ∧ j.val - q.val < 3) ∧ o.val < 10 then
        folded (w2Of (m ((c.tc : Thread nD τ).loc main_arg2))) (fcOf (m ((c.tc : Thread nD τ).loc main_arg3)))
          ⟨j.val - q.val, h.1.2⟩ k g ⟨o.val, h.2⟩
      else 0 := by
  refine vec14 (fun (q : Fin 14) (X : FVec Ideal S16x16x9x1x16 .f32) => X (ix5 j k g 0 o) = if h : (q.val ≤ j.val ∧ j.val - q.val < 3) ∧ o.val < 10 then
      folded (w2Of (m ((c.tc : Thread nD τ).loc main_arg2))) (fcOf (m ((c.tc : Thread nD τ).loc main_arg3)))
        ⟨j.val - q.val, h.1.2⟩ k g ⟨o.val, h.2⟩ else 0) _ _ _ _ _ _ _ _ _ _ _ _ _ _ ?_ ?_ ?_ ?_ ?_ ?_ ?_ ?_ ?_ ?_ ?_ ?_ ?_ ?_ q
  all_goals unfold V V0
  all_goals after_reads_at
  all_goals
    refine dite_congr (propext ⟨fun h => by omega, fun h => by omega⟩) (fun h => ?_) (fun _ => by simp [FloatOps.sitofp])
    exact folded_sum _ _ _ (by omega) k g ⟨o.val, h.2⟩

/-- A word read as a number. -/
theorem word_real (b : BitVec 32) : (FloatOps.sitofp (F := Ideal) FTy.f32 b : EReal) = ((b.toInt : ℝ) : EReal) := rfl

/-- The zero word read as a number. -/
theorem word_zero : (FloatOps.sitofp (F := Ideal) FTy.f32 0#32 : EReal) = 0 := by
  rw [word_real]; simp

/-- The index words of the gather name the plane `14 s + j`. -/
theorem word_at (s : Fin 5) (j : Fin 18) :
    min (Scalar.select (IntOp.cmpi .slt (IntOp.addi (IntOp.muli (BitVec.ofNat 32 s.val) 14#32) (BitVec.ofNat 32 j.val)) 0#32)
      (IntOp.addi (IntOp.addi (IntOp.muli (BitVec.ofNat 32 s.val) 14#32) (BitVec.ofNat 32 j.val)) 74#32)
      (IntOp.addi (IntOp.muli (BitVec.ofNat 32 s.val) 14#32) (BitVec.ofNat 32 j.val))).toInt.toNat 73 = 14 * s.val + j.val := by
  revert s j
  decide

/-- The padded strip of a plane, read as the grid in shifted coordinates. -/
theorem strip (x : (⟨4, ![2, 64, 64, 64]⟩ : Shape).Idx → BitVec 32) (b : Fin 2) (P : ℕ) (hP : P < 74) (R : Fin 4768) :
    (if h : P < 74 ∧ 72 ≤ R.val ∧ R.val - 72 < 4624 then
        if h₁ : (2 ≤ P ∧ P - 2 < 64) ∧ (2 ≤ (R.val - 72) / 68 ∧ (R.val - 72) / 68 - 2 < 64) ∧ 2 ≤ (R.val - 72) % 68 ∧ (R.val - 72) % 68 - 2 < 64 then
          (FloatOps.sitofp (F := Ideal) FTy.f32 (x (ix4 b ⟨P - 2, h₁.1.2⟩ ⟨(R.val - 72) / 68 - 2, h₁.2.1.2⟩ ⟨(R.val - 72) % 68 - 2, h₁.2.2.2⟩)) : EReal)
        else FloatOps.sitofp (F := Ideal) FTy.f32 0#32
      else FloatOps.sitofp (F := Ideal) FTy.f32 0#32)
      = if 72 ≤ R.val ∧ R.val < 4696 then og (occOf x) b P ((R.val - 72) / 68) ((R.val - 72) % 68) else 0 := by
  rw [word_zero]
  unfold og occOf
  by_cases h : 72 ≤ R.val ∧ R.val < 4696
  · rw [dif_pos ⟨hP, h.1, by omega⟩, if_pos h]
    by_cases h₁ : (2 ≤ P ∧ P - 2 < 64) ∧ (2 ≤ (R.val - 72) / 68 ∧ (R.val - 72) / 68 - 2 < 64) ∧ 2 ≤ (R.val - 72) % 68 ∧ (R.val - 72) % 68 - 2 < 64
    · rw [dif_pos h₁, dif_pos (by omega), word_real]
    · rw [dif_neg h₁, dif_neg (by omega)]
  · rw [dif_neg (by omega), if_neg h]

/-- The first operand: sixteen copies of each of the eighteen planes the block sees, laid out as one long strip with blank ends. -/
theorem win_at (c : Dev nD) (b : Fin 2) (s : Fin 5) (R : Fin 4768) (l : Fin 288) (A : FVec Ideal S2x5x4768x288 .f32) (hA : A = V m c main_v23) :
    A (ix4 b s R l) = if 72 ≤ R.val ∧ R.val < 4696 then
      og (occOf (m ((c.tc : Thread nD τ).loc main_arg0))) b (14 * s.val + l.val / 16) ((R.val - 72) / 68) ((R.val - 72) % 68) else 0 := by
  subst hA
  unfold V V0
  after_reads_at
  rw [gather_at]
  pointwise
  simp only [word_at s ⟨l.val / 16, by omega⟩]
  exact strip (m ((c.tc : Thread nD τ).loc main_arg0)) b _ (by omega) R

/-- The second operand: in column `256 g + 16 q + o` the folded weights of output plane `q`. -/
theorem wt_at (c : Dev nD) (l : Fin 256) (g : Fin 9) (q : Fin 14) (o : Fin 16) (A : FVec Ideal S256x2304 .bf16) (hA : A = V m c main_v60) :
    A (ix2 l ⟨256 * g.val + (16 * q.val + o.val), by omega⟩) =
      if h : (q.val ≤ l.val / 16 ∧ l.val / 16 - q.val < 3) ∧ o.val < 10 then
        folded (w2Of (m ((c.tc : Thread nD τ).loc main_arg2))) (fcOf (m ((c.tc : Thread nD τ).loc main_arg3)))
          ⟨l.val / 16 - q.val, h.1.2⟩ ⟨l.val % 16, by omega⟩ g ⟨o.val, h.2⟩
      else 0 := by
  rw [wt_eq m c A hA, laid_at _ _ _ (by simp only; omega)]
  have h1 : (⟨(256 * g.val + (16 * q.val + o.val)) / 256, by omega⟩ : Fin 9) = g := Fin.ext (by simp only; omega)
  have h2 : (⟨(256 * g.val + (16 * q.val + o.val)) / 16 % 16, by omega⟩ : Fin 14) = q := Fin.ext (by simp only; omega)
  have h3 : (⟨(256 * g.val + (16 * q.val + o.val)) % 16, by omega⟩ : Fin 16) = o := Fin.ext (by simp only; omega)
  rw [h1, h2, h3]
  exact (cat14_vec _ _ _ _ _ _ _ _ _ _ _ _ _ _ _ _ g q o).trans (piece_at m c q _ _ g o)

end Cert.Proof.Prefix
-- ==== Proof.Block.lean ====
module

public import proofs.«01_k».proof.Proof.Array
public import proofs.«01_k».proof.Proof.Prefix

@[expose] public section

noncomputable section
namespace Cert.Proof.Block
open Cert.KernelIdeal Idealize.ShloMosaic Cert.Proof.Body Cert.Proof.Array Cert.Proof.Spec Cert.Proof.Prefix

variable (occ : Grid) (w1 : Wt1) (w2 : Wt2) (fc : Fin 10 → Fin 32 → EReal) (fb : Fin 10 → EReal)
variable (O : Vec Ideal S2x5x4768x288 .f32) (B : Vec Ideal S256x2304 .bf16) (f : Vec Ideal S1x256 .f32) (w : Vec Ideal S27x256 .f32)

/-- A sum of two products with equal factors. -/
theorem mul_eq {a b c d : EReal} (h : a = b) (h' : c = d) : a * c = b * d := by rw [h, h']

/-- The first operand off the blank ends, at a row given by its two plane coordinates. -/
theorem strip_at (hO : ∀ (b : Fin 2) (s : Fin 5) (R : Fin 4768) (l : Fin 288), O (ix4 b s R l) =
      if 72 ≤ R.val ∧ R.val < 4696 then og occ b (14 * s.val + l.val / 16) ((R.val - 72) / 68) ((R.val - 72) % 68) else 0)
    (b : Fin 2) (s : Fin 5) (R : Fin 4768) (l : Fin 288) (P Y X : ℕ) (hX : X < 68) (hY : Y < 68) (hR : R.val = 72 + 68 * Y + X) (hP : 14 * s.val + l.val / 16 = P) :
    O (ix4 b s R l) = og occ b P Y X := by
  rw [hO, if_pos (by omega), hP, show (R.val - 72) / 68 = Y by omega, show (R.val - 72) % 68 = X by omega]

/-- The column array holds the first masked convolution of the block's planes. -/
theorem cols_at (hO : ∀ (b : Fin 2) (s : Fin 5) (R : Fin 4768) (l : Fin 288), O (ix4 b s R l) =
      if 72 ≤ R.val ∧ R.val < 4696 then og occ b (14 * s.val + l.val / 16) ((R.val - 72) / 68) ((R.val - 72) % 68) else 0)
    (hw : ∀ (tap : Fin 27) (l : Fin 256), w (ix2 tap l) = w1 ⟨tap.val / 9, by omega⟩ ⟨tap.val / 3 % 3, by omega⟩ ⟨tap.val % 3, by omega⟩ ⟨l.val % 16, by omega⟩)
    (b : Fin 2) (s : Fin 5) (R : Fin 4768) (l : Fin 256) (Y X : ℕ) (hX : 1 ≤ X ∧ X ≤ 66) (hY : 1 ≤ Y ∧ Y ≤ 66) (hR : R.val = 72 + 68 * Y + X) :
    ycat (fun _ => 0) (owin O b s) w (ix2 R l) = y1 occ w1 b (14 * s.val + l.val / 16 + 1) Y X ⟨l.val % 16, by omega⟩ := by
  unfold ycat
  rw [dif_pos (by show 72 ≤ R.val ∧ R.val < 4696; omega)]
  unfold yin y1
  refine mul_eq (Finset.sum_congr rfl fun a _ => Finset.sum_congr rfl fun e _ => Finset.sum_congr rfl fun d _ => mul_eq ?_ ?_) ?_
  · exact strip_at occ O hO b s _ _ _ _ _ (by omega) (by omega) (by show 3 + 68 * e.val + d.val + (R.val - 72) = _; omega)
      (by show 14 * s.val + (16 * a.val + l.val) / 16 = _; omega)
  · refine (hw _ _).trans ?_
    have h1 : (⟨(9 * a.val + 3 * e.val + d.val) / 9, by omega⟩ : Fin 3) = a := Fin.ext (by simp only; omega)
    have h2 : (⟨(9 * a.val + 3 * e.val + d.val) / 3 % 3, by omega⟩ : Fin 3) = e := Fin.ext (by simp only; omega)
    have h3 : (⟨(9 * a.val + 3 * e.val + d.val) % 3, by omega⟩ : Fin 3) = d := Fin.ext (by simp only; omega)
    show w1 ⟨(9 * a.val + 3 * e.val + d.val) / 9, _⟩ ⟨(9 * a.val + 3 * e.val + d.val) / 3 % 3, _⟩ ⟨(9 * a.val + 3 * e.val + d.val) % 3, _⟩ _ = _
    rw [h1, h2, h3]
    rfl
  · exact strip_at occ O hO b s _ _ _ _ _ (by omega) (by omega) (by show 72 + (R.val - 72) = _; omega)
      (by show 14 * s.val + (16 + l.val) / 16 = _; omega)

/-- A sum over the lanes against weights that vanish outside three planes is the sum over those planes. -/
theorem lanes (q : Fin 14) (Y : ℕ → Fin 16 → EReal) (F : Fin 3 → Fin 16 → EReal) :
    (∑ l : Fin 256, Y (l.val / 16) ⟨l.val % 16, by omega⟩ *
        (if h : q.val ≤ l.val / 16 ∧ l.val / 16 - q.val < 3 then F ⟨l.val / 16 - q.val, h.2⟩ ⟨l.val % 16, by omega⟩ else 0))
      = ∑ a : Fin 3, ∑ k : Fin 16, Y (q.val + a.val) k * F a k := by
  refine Eq.trans (b := ∑ j : Fin 16, ∑ k : Fin 16, Y j.val k *
      (if h : q.val ≤ j.val ∧ j.val - q.val < 3 then F ⟨j.val - q.val, h.2⟩ k else 0)) ?_ ?_
  · exact Fin.sum_univ_mul_divNat_modNat 16 16 (fun j k => Y j.val k *
      (if h : q.val ≤ j.val ∧ j.val - q.val < 3 then F ⟨j.val - q.val, h.2⟩ k else 0))
  · symm
    refine Fintype.sum_of_injective (fun a : Fin 3 => (⟨q.val + a.val, by omega⟩ : Fin 16))
      (fun a a' h => Fin.ext (by have := congrArg Fin.val h; simp only at this; omega)) _ _ (fun j hj => ?_) (fun a => ?_)
    · refine Finset.sum_eq_zero fun k _ => ?_
      rw [dif_neg fun h => hj ⟨⟨j.val - q.val, h.2⟩, Fin.ext (by simp only; omega)⟩, mul_zero]
    · refine Finset.sum_congr rfl fun k _ => mul_eq rfl ?_
      have h1 : (⟨q.val + a.val - q.val, by omega⟩ : Fin 3) = a := Fin.ext (by simp only; omega)
      rw [dif_pos (by simp only; omega)]
      simp only [h1]

/-- The kernel's output array at a voxel. -/
theorem out_at (hO : ∀ (b : Fin 2) (s : Fin 5) (R : Fin 4768) (l : Fin 288), O (ix4 b s R l) =
      if 72 ≤ R.val ∧ R.val < 4696 then og occ b (14 * s.val + l.val / 16) ((R.val - 72) / 68) ((R.val - 72) % 68) else 0)
    (hw : ∀ (tap : Fin 27) (l : Fin 256), w (ix2 tap l) = w1 ⟨tap.val / 9, by omega⟩ ⟨tap.val / 3 % 3, by omega⟩ ⟨tap.val % 3, by omega⟩ ⟨l.val % 16, by omega⟩)
    (hB : ∀ (l : Fin 256) (g : Fin 9) (q : Fin 14) (o : Fin 16), B (ix2 l ⟨256 * g.val + (16 * q.val + o.val), by omega⟩) =
      if h : (q.val ≤ l.val / 16 ∧ l.val / 16 - q.val < 3) ∧ o.val < 10 then
        folded w2 fc ⟨l.val / 16 - q.val, h.1.2⟩ ⟨l.val % 16, by omega⟩ g ⟨o.val, h.2⟩ else 0)
    (hf : ∀ l : Fin 256, f (ix2 0 l) = if h : l.val % 16 < 10 then fb ⟨l.val % 16, h⟩ else 0)
    (b : Fin 2) (s : Fin 5) (q : Fin 14) (y x : Fin 64) (o : Fin 10) :
    arrOut O B f w (ix4 b s ⟨68 * (y.val + 2) + (x.val + 2), by omega⟩ ⟨16 * q.val + o.val, by omega⟩) =
      ((∑ e : Fin 3, ∑ d : Fin 3, ∑ a : Fin 3, ∑ k : Fin 16,
          y1 occ w1 b (14 * s.val + (q.val + a.val) + 1) (y.val + e.val + 1) (x.val + d.val + 1) k * ∑ h : Fin 32, w2 a e d k h * fc o h)
        + fb o) * og occ b (14 * s.val + q.val + 2) (y.val + 2) (x.val + 2) := by
  unfold arrOut rowOut
  refine mul_eq (congrArg₂ (fun p r : EReal => p + r) (Finset.sum_congr rfl fun e _ => Finset.sum_congr rfl fun d _ => ?_) ?_) ?_
  · refine Eq.trans (Finset.sum_congr rfl fun l _ => mul_eq
      (cols_at occ w1 O w hO hw b s _ l (y.val + e.val + 1) (x.val + d.val + 1) (by omega) (by omega) ?_) ?_)
      (lanes q (fun j k => y1 occ w1 b (14 * s.val + j + 1) (y.val + e.val + 1) (x.val + d.val + 1) k) (fun a k => ∑ h : Fin 32, w2 a e d k h * fc o h))
    · show 3 + 68 * e.val + d.val + (68 * (y.val + 2) + (x.val + 2)) = _; omega
    · refine (hB l ⟨3 * e.val + d.val, by omega⟩ q ⟨o.val, by omega⟩).trans ?_
      refine dite_congr (propext ⟨fun h => h.1, fun h => ⟨h, o.isLt⟩⟩) (fun h => ?_) (fun _ => rfl)
      unfold folded
      have h1 : (⟨(3 * e.val + d.val) / 3, by omega⟩ : Fin 3) = e := Fin.ext (by simp only; omega)
      have h2 : (⟨(3 * e.val + d.val) % 3, by omega⟩ : Fin 3) = d := Fin.ext (by simp only; omega)
      simp only [h1, h2]
  · refine (hf _).trans ?_
    have h1 : (16 * q.val + o.val) % 16 = o.val := by omega
    rw [dif_pos (by show (16 * q.val + o.val) % 16 < 10; omega)]
    exact congrArg fb (Fin.ext h1)
  · exact strip_at occ O hO b s _ _ _ _ _ (by omega) (by omega) (by show 72 + (68 * (y.val + 2) + (x.val + 2)) = _; omega)
      (by show 14 * s.val + (32 + (16 * q.val + o.val)) / 16 = _; omega)

end Cert.Proof.Block
end
-- ==== Proof.Value.lean ====
module

public import proofs.«01_k».proof.Proof.Result
public import proofs.«01_k».proof.Proof.Block
public import proofs.«01_k».proof.Proof.Equation

@[expose] public section

noncomputable section
namespace Cert.Proof.Value
open Cert.KernelIdeal Cert.KernelIdeal.Gen Idealize.ShloMosaic Idealize.ShloMosaic.TcCoe Idealize.SL.Sem Cert.Proof.Array Cert.Proof.Spec Cert.Proof.Equation

/-- An occupancy word that is zero or one is the number zero or one. -/
theorem occ_cases (x0 : (⟨4, ![2, 64, 64, 64]⟩ : Shape).Idx → BitVec 32) (h : ∀ i, x0 i = 0#32 ∨ x0 i = 1#32) (b : Fin 2) (d y x : Fin 64) :
    occOf x0 b d y x = 0 ∨ occOf x0 b d y x = 1 := by
  unfold occOf
  rcases h (ix4 b d y x) with h | h <;> rw [h]
  · exact Or.inl (by simp)
  · exact Or.inr (by simp)

variable (m : (ℓ : Loc nD τ sig) → Buf (Elt Ideal) ℓ)

/-- The result buffer after the kernel's run is the network's output of the arguments. -/
theorem value (c : Dev nD)
    (h0 : ∀ i, (show IVec S2x64x64x64 32 from m ((c.tc : Thread nD τ).loc main_arg0)) i = 0#32 ∨ (show IVec S2x64x64x64 32 from m ((c.tc : Thread nD τ).loc main_arg0)) i = 1#32)
    (h1 : ∀ i, IsReal ((show FVec Ideal S3x3x3x1x16 .f32 from m ((c.tc : Thread nD τ).loc main_arg1)) i))
    (h2 : ∀ i, IsReal ((show FVec Ideal S3x3x3x16x32 .f32 from m ((c.tc : Thread nD τ).loc main_arg2)) i))
    (h3 : ∀ i, IsReal ((show FVec Ideal S10x32 .f32 from m ((c.tc : Thread nD τ).loc main_arg3)) i)) :
    Pipeline.afterTail₀ cfgs (dats m) 0 (V0 m) [hostOps1] c main_v77
      = outArr (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine funext fun j => ?_
  obtain ⟨i, o, rfl⟩ : ∃ (i : Fin 524288) (o : Fin 10), j = ix2 i o := ⟨j 0, j 1, funext fun a => by fin_cases a <;> rfl⟩
  refine (Result.result_at m c i o _ rfl).trans ?_
  refine (Block.out_at _ _ _ _ _ _ _ _ _ (fun b s R l => Prefix.win_at m c b s R l _ rfl) (fun tap l => Prefix.w1_at m c tap l _ rfl)
    (fun l g q o => Prefix.wt_at m c l g q o _ rfl) (fun l => Prefix.fb_at m c l _ rfl)
    ⟨i.val / 262144, by omega⟩ ⟨i.val / 4096 % 64 / 14, by omega⟩ ⟨i.val / 4096 % 64 % 14, by omega⟩
    ⟨i.val / 64 % 64, by omega⟩ ⟨i.val % 64, by omega⟩ o).trans ?_
  exact out_eq _ (occ_cases _ h0) (fun s t u k => h1 _) (fun s t u k h => h2 _) (fun o h => h3 _)
    _ _ _ ⟨i.val / 4096 % 64, by omega⟩ _ _ o (by show 14 * (i.val / 4096 % 64 / 14) + i.val / 4096 % 64 % 14 = i.val / 4096 % 64; omega)

end Cert.Proof.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_pre
public import proofs.«01_k».proof.Proof.Given
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs to the end, its arguments end as they were, and every semaphore counter reads zero. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) := by
  exact (θ_run Cert.ReferenceIdeal.defs _ _).mono (fun r h => ⟨fun c => (h c).2, sem_eq_zero_of_no_sems rfl r.2⟩) (Cert.ReferenceIdeal.Value.run m ρ)

/-- The kernel and the reference leave the same result: the network's output of the arguments. -/
theorem algebraic : Cert.algebraic_KernelIdeal_ReferenceIdeal_pre_pre := by
  intro m g m' g' hpre hag
  refine ⟨fun c => Spec.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Result.run m g)
    obtain ⟨h0, h1, h2, h3⟩ := Given.given _ _ _ _ _ (hpre c)
    exact Value.value m c h0 h1 h2 h3
  · refine (θ_run Cert.ReferenceIdeal.defs _ _).mono (fun r h c => ⟨(h c).1.trans ?_, (h c).2⟩) (Ref.result m' g' fun c i => ?_)
    · have h0 := (Given.given _ _ _ _ _ (hpre c)).1
      rw [← (hag c).1] at h0
      exact h0 i
    · obtain ⟨e0, e1, e2, e3, e4⟩ := hag c
      rw [e0, e1, e2, e3, e4]

/-- Every claim of the certificate. -/
theorem claim : Cert.Claim := ⟨Cert.Kernel.Gen.facts, Cert.KernelIdeal.Gen.facts, Cert.ReferenceIdeal.Gen.facts, Cert.Pre_pre.Gen.facts,
  fun m ρ _ => Cert.Kernel.Gen.frame m ρ,
  fun m ρ _ => Cert.KernelIdeal.Gen.frame m ρ,
  fun m ρ _ => Cert.KernelIdeal.Gen.frame m ρ,
  fun m ρ _ => ref_frame m ρ,
  fun m ρ _ => ref_frame m ρ,
  trivial, algebraic⟩

end Cert.Proof

end
